-- ==== Defs.lean ====
def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Merge2 (m : (ℓ : Loc Cert.Merge2.nD Cert.Merge2.τ Cert.Merge2.sig) → Buf (Elt Bits) ℓ) : Prop :=
  True

def Pre_Merge2Ideal (m : (ℓ : Loc Cert.Merge2Ideal.nD Cert.Merge2Ideal.τ Cert.Merge2Ideal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Merge2 [hMerge2 : Cert.Merge2.Facts] : Prop :=
  ∀ (m : (ℓ : Loc Cert.Merge2.nD Cert.Merge2.τ Cert.Merge2.sig) → Buf (Elt Bits) ℓ) (g : Dev Cert.Merge2.nD → PrngReg), Pre_Merge2 m →
    θ_run (Cert.Merge2.defs (F := Bits)) (onTc (τ := Cert.Merge2.τ) (Cert.Merge2.main (F := Bits))) ⟨m, fun _ => 0, g⟩ (fun r => (∀ c : Dev Cert.Merge2.nD,
      r.2.mem ((c.tc : Thread Cert.Merge2.nD Cert.Merge2.τ).loc Cert.Merge2.main_arg0) = m ((c.tc : Thread Cert.Merge2.nD Cert.Merge2.τ).loc Cert.Merge2.main_arg0)
      ∧ r.2.mem ((c.tc : Thread Cert.Merge2.nD Cert.Merge2.τ).loc Cert.Merge2.main_arg1) = m ((c.tc : Thread Cert.Merge2.nD Cert.Merge2.τ).loc Cert.Merge2.main_arg1)
      ∧ r.2.mem ((c.tc : Thread Cert.Merge2.nD Cert.Merge2.τ).loc Cert.Merge2.main_arg2) = m ((c.tc : Thread Cert.Merge2.nD Cert.Merge2.τ).loc Cert.Merge2.main_arg2)
      ∧ r.2.mem ((c.tc : Thread Cert.Merge2.nD Cert.Merge2.τ).loc Cert.Merge2.main_arg3) = m ((c.tc : Thread Cert.Merge2.nD Cert.Merge2.τ).loc Cert.Merge2.main_arg3)
      ∧ r.2.mem ((c.tc : Thread Cert.Merge2.nD Cert.Merge2.τ).loc Cert.Merge2.main_arg4) = m ((c.tc : Thread Cert.Merge2.nD Cert.Merge2.τ).loc Cert.Merge2.main_arg4))
      ∧ r.2.sem = fun _ => 0)

def quiescent_Merge2Ideal [hMerge2Ideal : Cert.Merge2Ideal.Facts] : Prop :=
  ∀ (m : (ℓ : Loc Cert.Merge2Ideal.nD Cert.Merge2Ideal.τ Cert.Merge2Ideal.sig) → Buf (Elt Ideal) ℓ) (g : Dev Cert.Merge2Ideal.nD → PrngReg), Pre_Merge2Ideal m →
    θ_run (Cert.Merge2Ideal.defs (F := Ideal)) (onTc (τ := Cert.Merge2Ideal.τ) (Cert.Merge2Ideal.main (F := Ideal))) ⟨m, fun _ => 0, g⟩ (fun r => (∀ c : Dev Cert.Merge2Ideal.nD,
      r.2.mem ((c.tc : Thread Cert.Merge2Ideal.nD Cert.Merge2Ideal.τ).loc Cert.Merge2Ideal.main_arg0) = m ((c.tc : Thread Cert.Merge2Ideal.nD Cert.Merge2Ideal.τ).loc Cert.Merge2Ideal.main_arg0)
      ∧ r.2.mem ((c.tc : Thread Cert.Merge2Ideal.nD Cert.Merge2Ideal.τ).loc Cert.Merge2Ideal.main_arg1) = m ((c.tc : Thread Cert.Merge2Ideal.nD Cert.Merge2Ideal.τ).loc Cert.Merge2Ideal.main_arg1)
      ∧ r.2.mem ((c.tc : Thread Cert.Merge2Ideal.nD Cert.Merge2Ideal.τ).loc Cert.Merge2Ideal.main_arg2) = m ((c.tc : Thread Cert.Merge2Ideal.nD Cert.Merge2Ideal.τ).loc Cert.Merge2Ideal.main_arg2)
      ∧ r.2.mem ((c.tc : Thread Cert.Merge2Ideal.nD Cert.Merge2Ideal.τ).loc Cert.Merge2Ideal.main_arg3) = m ((c.tc : Thread Cert.Merge2Ideal.nD Cert.Merge2Ideal.τ).loc Cert.Merge2Ideal.main_arg3)
      ∧ r.2.mem ((c.tc : Thread Cert.Merge2Ideal.nD Cert.Merge2Ideal.τ).loc Cert.Merge2Ideal.main_arg4) = m ((c.tc : Thread Cert.Merge2Ideal.nD Cert.Merge2Ideal.τ).loc Cert.Merge2Ideal.main_arg4))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1)
      ∧ r.2.mem ((c.tc : Thread Cert.MergedRefIdeal.nD Cert.MergedRefIdeal.τ).loc Cert.MergedRefIdeal.main_arg2) = m ((c.tc : Thread Cert.MergedRefIdeal.nD Cert.MergedRefIdeal.τ).loc Cert.MergedRefIdeal.main_arg2)
      ∧ r.2.mem ((c.tc : Thread Cert.MergedRefIdeal.nD Cert.MergedRefIdeal.τ).loc Cert.MergedRefIdeal.main_arg3) = m ((c.tc : Thread Cert.MergedRefIdeal.nD Cert.MergedRefIdeal.τ).loc Cert.MergedRefIdeal.main_arg3)
      ∧ r.2.mem ((c.tc : Thread Cert.MergedRefIdeal.nD Cert.MergedRefIdeal.τ).loc Cert.MergedRefIdeal.main_arg4) = m ((c.tc : Thread Cert.MergedRefIdeal.nD Cert.MergedRefIdeal.τ).loc Cert.MergedRefIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6))
      ∧ r.2.sem = fun _ => 0)

def preserves_Merge1_Merge1Ideal : Prop :=
  True

def algebraic_Merge1Ideal_MergeRefIdeal [hMerge1Ideal : Cert.Merge1Ideal.Facts] [hMergeRefIdeal : Cert.MergeRefIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_Merge1Ideal m →
    (∀ c : Dev Cert.Merge1Ideal.nD,
      m' ((c.tc : Thread Cert.MergeRefIdeal.nD Cert.MergeRefIdeal.τ).loc Cert.MergeRefIdeal.main_arg0) = m ((c.tc : Thread Cert.Merge1Ideal.nD Cert.Merge1Ideal.τ).loc Cert.Merge1Ideal.main_arg0)
      ∧ m' ((c.tc : Thread Cert.MergeRefIdeal.nD Cert.MergeRefIdeal.τ).loc Cert.MergeRefIdeal.main_arg1) = m ((c.tc : Thread Cert.Merge1Ideal.nD Cert.Merge1Ideal.τ).loc Cert.Merge1Ideal.main_arg1)
      ∧ m' ((c.tc : Thread Cert.MergeRefIdeal.nD Cert.MergeRefIdeal.τ).loc Cert.MergeRefIdeal.main_arg2) = m ((c.tc : Thread Cert.Merge1Ideal.nD Cert.Merge1Ideal.τ).loc Cert.Merge1Ideal.main_arg2)
      ∧ m' ((c.tc : Thread Cert.MergeRefIdeal.nD Cert.MergeRefIdeal.τ).loc Cert.MergeRefIdeal.main_arg3) = m ((c.tc : Thread Cert.Merge1Ideal.nD Cert.Merge1Ideal.τ).loc Cert.Merge1Ideal.main_arg3)
      ∧ m' ((c.tc : Thread Cert.MergeRefIdeal.nD Cert.MergeRefIdeal.τ).loc Cert.MergeRefIdeal.main_arg4) = m ((c.tc : Thread Cert.Merge1Ideal.nD Cert.Merge1Ideal.τ).loc Cert.Merge1Ideal.main_arg4)) →
    ∃ (v0 : (c : Dev Cert.Merge1Ideal.nD) → Buf (Elt Ideal) ((c.tc : Thread Cert.Merge1Ideal.nD Cert.Merge1Ideal.τ).loc Cert.Merge1Ideal.main_v3_0)) (v1 : (c : Dev Cert.Merge1Ideal.nD) → Buf (Elt Ideal) ((c.tc : Thread Cert.Merge1Ideal.nD Cert.Merge1Ideal.τ).loc Cert.Merge1Ideal.main_v3_1)) (v2 : (c : Dev Cert.Merge1Ideal.nD) → Buf (Elt Ideal) ((c.tc : Thread Cert.Merge1Ideal.nD Cert.Merge1Ideal.τ).loc Cert.Merge1Ideal.main_v3_2)) (v3 : (c : Dev Cert.Merge1Ideal.nD) → Buf (Elt Ideal) ((c.tc : Thread Cert.Merge1Ideal.nD Cert.Merge1Ideal.τ).loc Cert.Merge1Ideal.main_v3_3)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v3_0) = v0 c
          ∧ r.2.mem ((c.tc : Thread Cert.Merge1Ideal.nD Cert.Merge1Ideal.τ).loc Cert.Merge1Ideal.main_v3_1) = v1 c
          ∧ r.2.mem ((c.tc : Thread Cert.Merge1Ideal.nD Cert.Merge1Ideal.τ).loc Cert.Merge1Ideal.main_v3_2) = v2 c
          ∧ r.2.mem ((c.tc : Thread Cert.Merge1Ideal.nD Cert.Merge1Ideal.τ).loc Cert.Merge1Ideal.main_v3_3) = v3 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29_0) = v0 c
          ∧ r.2.mem ((c.tc : Thread Cert.MergeRefIdeal.nD Cert.MergeRefIdeal.τ).loc Cert.MergeRefIdeal.main_v30) = v1 c
          ∧ r.2.mem ((c.tc : Thread Cert.MergeRefIdeal.nD Cert.MergeRefIdeal.τ).loc Cert.MergeRefIdeal.main_v29_1) = v2 c
          ∧ r.2.mem ((c.tc : Thread Cert.MergeRefIdeal.nD Cert.MergeRefIdeal.τ).loc Cert.MergeRefIdeal.main_v29_2) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Merge2_Merge2Ideal : Prop :=
  True

def algebraic_Merge2Ideal_MergedRefIdeal [hMerge2Ideal : Cert.Merge2Ideal.Facts] [hMergedRefIdeal : Cert.MergedRefIdeal.Facts] : Prop :=
  ∀ (m : (ℓ : Loc Cert.Merge2Ideal.nD Cert.Merge2Ideal.τ Cert.Merge2Ideal.sig) → Buf (Elt Ideal) ℓ) (g : Dev Cert.Merge2Ideal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_Merge2Ideal m →
    (∀ c : Dev Cert.Merge2Ideal.nD,
      m' ((c.tc : Thread Cert.MergedRefIdeal.nD Cert.MergedRefIdeal.τ).loc Cert.MergedRefIdeal.main_arg0) = m ((c.tc : Thread Cert.Merge2Ideal.nD Cert.Merge2Ideal.τ).loc Cert.Merge2Ideal.main_arg0)
      ∧ m' ((c.tc : Thread Cert.MergedRefIdeal.nD Cert.MergedRefIdeal.τ).loc Cert.MergedRefIdeal.main_arg1) = m ((c.tc : Thread Cert.Merge2Ideal.nD Cert.Merge2Ideal.τ).loc Cert.Merge2Ideal.main_arg1)
      ∧ m' ((c.tc : Thread Cert.MergedRefIdeal.nD Cert.MergedRefIdeal.τ).loc Cert.MergedRefIdeal.main_arg2) = m ((c.tc : Thread Cert.Merge2Ideal.nD Cert.Merge2Ideal.τ).loc Cert.Merge2Ideal.main_arg2)
      ∧ m' ((c.tc : Thread Cert.MergedRefIdeal.nD Cert.MergedRefIdeal.τ).loc Cert.MergedRefIdeal.main_arg3) = m ((c.tc : Thread Cert.Merge2Ideal.nD Cert.Merge2Ideal.τ).loc Cert.Merge2Ideal.main_arg3)
      ∧ m' ((c.tc : Thread Cert.MergedRefIdeal.nD Cert.MergedRefIdeal.τ).loc Cert.MergedRefIdeal.main_arg4) = m ((c.tc : Thread Cert.Merge2Ideal.nD Cert.Merge2Ideal.τ).loc Cert.Merge2Ideal.main_arg4)) →
    ∃ (v0 : (c : Dev Cert.Merge2Ideal.nD) → Buf (Elt Ideal) ((c.tc : Thread Cert.Merge2Ideal.nD Cert.Merge2Ideal.τ).loc Cert.Merge2Ideal.main_v2)),
      θ_run (Cert.Merge2Ideal.defs (F := Ideal)) (onTc (τ := Cert.Merge2Ideal.τ) (Cert.Merge2Ideal.main (F := Ideal))) ⟨m, fun _ => 0, g⟩ (fun r => ∀ c : Dev Cert.Merge2Ideal.nD,
          r.2.mem ((c.tc : Thread Cert.Merge2Ideal.nD Cert.Merge2Ideal.τ).loc Cert.Merge2Ideal.main_v2) = v0 c
          ∧ r.2.mem ((c.tc : Thread Cert.Merge2Ideal.nD Cert.Merge2Ideal.τ).loc Cert.Merge2Ideal.main_arg0) = m ((c.tc : Thread Cert.Merge2Ideal.nD Cert.Merge2Ideal.τ).loc Cert.Merge2Ideal.main_arg0)
          ∧ r.2.mem ((c.tc : Thread Cert.Merge2Ideal.nD Cert.Merge2Ideal.τ).loc Cert.Merge2Ideal.main_arg1) = m ((c.tc : Thread Cert.Merge2Ideal.nD Cert.Merge2Ideal.τ).loc Cert.Merge2Ideal.main_arg1)
          ∧ r.2.mem ((c.tc : Thread Cert.Merge2Ideal.nD Cert.Merge2Ideal.τ).loc Cert.Merge2Ideal.main_arg2) = m ((c.tc : Thread Cert.Merge2Ideal.nD Cert.Merge2Ideal.τ).loc Cert.Merge2Ideal.main_arg2)
          ∧ r.2.mem ((c.tc : Thread Cert.Merge2Ideal.nD Cert.Merge2Ideal.τ).loc Cert.Merge2Ideal.main_arg3) = m ((c.tc : Thread Cert.Merge2Ideal.nD Cert.Merge2Ideal.τ).loc Cert.Merge2Ideal.main_arg3)
          ∧ r.2.mem ((c.tc : Thread Cert.Merge2Ideal.nD Cert.Merge2Ideal.τ).loc Cert.Merge2Ideal.main_arg4) = m ((c.tc : Thread Cert.Merge2Ideal.nD Cert.Merge2Ideal.τ).loc Cert.Merge2Ideal.main_arg4))
      ∧ θ_run (Cert.MergedRefIdeal.defs (F := Ideal)) (onTc (τ := Cert.MergedRefIdeal.τ) (Cert.MergedRefIdeal.main (F := Ideal))) ⟨m', fun _ => 0, g'⟩ (fun r => ∀ c : Dev Cert.MergedRefIdeal.nD,
          r.2.mem ((c.tc : Thread Cert.MergedRefIdeal.nD Cert.MergedRefIdeal.τ).loc Cert.MergedRefIdeal.main_v4) = v0 c
          ∧ r.2.mem ((c.tc : Thread Cert.MergedRefIdeal.nD Cert.MergedRefIdeal.τ).loc Cert.MergedRefIdeal.main_arg0) = m' ((c.tc : Thread Cert.MergedRefIdeal.nD Cert.MergedRefIdeal.τ).loc Cert.MergedRefIdeal.main_arg0)
          ∧ r.2.mem ((c.tc : Thread Cert.MergedRefIdeal.nD Cert.MergedRefIdeal.τ).loc Cert.MergedRefIdeal.main_arg1) = m' ((c.tc : Thread Cert.MergedRefIdeal.nD Cert.MergedRefIdeal.τ).loc Cert.MergedRefIdeal.main_arg1)
          ∧ r.2.mem ((c.tc : Thread Cert.MergedRefIdeal.nD Cert.MergedRefIdeal.τ).loc Cert.MergedRefIdeal.main_arg2) = m' ((c.tc : Thread Cert.MergedRefIdeal.nD Cert.MergedRefIdeal.τ).loc Cert.MergedRefIdeal.main_arg2)
          ∧ r.2.mem ((c.tc : Thread Cert.MergedRefIdeal.nD Cert.MergedRefIdeal.τ).loc Cert.MergedRefIdeal.main_arg3) = m' ((c.tc : Thread Cert.MergedRefIdeal.nD Cert.MergedRefIdeal.τ).loc Cert.MergedRefIdeal.main_arg3)
          ∧ r.2.mem ((c.tc : Thread Cert.MergedRefIdeal.nD Cert.MergedRefIdeal.τ).loc Cert.MergedRefIdeal.main_arg4) = m' ((c.tc : Thread Cert.MergedRefIdeal.nD Cert.MergedRefIdeal.τ).loc Cert.MergedRefIdeal.main_arg4))

def preserves_Project_ProjectIdeal : Prop :=
  True

def algebraic_ProjectIdeal_HeadsRefIdeal [hProjectIdeal : Cert.ProjectIdeal.Facts] [hHeadsRefIdeal : Cert.HeadsRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_ProjectIdeal m →
    (∀ c : Dev Cert.ProjectIdeal.nD,
      m' ((c.tc : Thread Cert.HeadsRefIdeal.nD Cert.HeadsRefIdeal.τ).loc Cert.HeadsRefIdeal.main_arg0) = m ((c.tc : Thread Cert.ProjectIdeal.nD Cert.ProjectIdeal.τ).loc Cert.ProjectIdeal.main_arg0)
      ∧ m' ((c.tc : Thread Cert.HeadsRefIdeal.nD Cert.HeadsRefIdeal.τ).loc Cert.HeadsRefIdeal.main_arg1) = m ((c.tc : Thread Cert.ProjectIdeal.nD Cert.ProjectIdeal.τ).loc Cert.ProjectIdeal.main_arg1)
      ∧ m' ((c.tc : Thread Cert.HeadsRefIdeal.nD Cert.HeadsRefIdeal.τ).loc Cert.HeadsRefIdeal.main_arg2) = m ((c.tc : Thread Cert.ProjectIdeal.nD Cert.ProjectIdeal.τ).loc Cert.ProjectIdeal.main_arg2)
      ∧ m' ((c.tc : Thread Cert.HeadsRefIdeal.nD Cert.HeadsRefIdeal.τ).loc Cert.HeadsRefIdeal.main_arg3) = m ((c.tc : Thread Cert.ProjectIdeal.nD Cert.ProjectIdeal.τ).loc Cert.ProjectIdeal.main_arg3)
      ∧ m' ((c.tc : Thread Cert.HeadsRefIdeal.nD Cert.HeadsRefIdeal.τ).loc Cert.HeadsRefIdeal.main_arg4) = m ((c.tc : Thread Cert.ProjectIdeal.nD Cert.ProjectIdeal.τ).loc Cert.ProjectIdeal.main_arg4)
      ∧ m' ((c.tc : Thread Cert.HeadsRefIdeal.nD Cert.HeadsRefIdeal.τ).loc Cert.HeadsRefIdeal.main_arg5) = m ((c.tc : Thread Cert.ProjectIdeal.nD Cert.ProjectIdeal.τ).loc Cert.ProjectIdeal.main_arg5)
      ∧ m' ((c.tc : Thread Cert.HeadsRefIdeal.nD Cert.HeadsRefIdeal.τ).loc Cert.HeadsRefIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v6) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v17) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5)
          ∧ r.2.mem ((c.tc : Thread Cert.HeadsRefIdeal.nD Cert.HeadsRefIdeal.τ).loc Cert.HeadsRefIdeal.main_arg6) = m' ((c.tc : Thread Cert.HeadsRefIdeal.nD Cert.HeadsRefIdeal.τ).loc Cert.HeadsRefIdeal.main_arg6))

def Claim : Prop :=
  ∃ (hMerge1 : Cert.Merge1.Facts) (hMerge1Ideal : Cert.Merge1Ideal.Facts) (hMergeRefIdeal : Cert.MergeRefIdeal.Facts) (hMerge2 : Cert.Merge2.Facts) (hMerge2Ideal : Cert.Merge2Ideal.Facts) (hMergedRefIdeal : Cert.MergedRefIdeal.Facts) (hProject : Cert.Project.Facts) (hProjectIdeal : Cert.ProjectIdeal.Facts) (hHeadsRefIdeal : Cert.HeadsRefIdeal.Facts),
    quiescent_Merge1 (hMerge1 := hMerge1)
    ∧ quiescent_Merge1Ideal (hMerge1Ideal := hMerge1Ideal)
    ∧ quiescent_MergeRefIdeal (hMergeRefIdeal := hMergeRefIdeal)
    ∧ quiescent_Merge2 (hMerge2 := hMerge2)
    ∧ quiescent_Merge2Ideal (hMerge2Ideal := hMerge2Ideal)
    ∧ quiescent_MergedRefIdeal (hMergedRefIdeal := hMergedRefIdeal)
    ∧ quiescent_Project (hProject := hProject)
    ∧ quiescent_ProjectIdeal (hProjectIdeal := hProjectIdeal)
    ∧ quiescent_HeadsRefIdeal (hHeadsRefIdeal := hHeadsRefIdeal)
    ∧ preserves_Merge1_Merge1Ideal
    ∧ algebraic_Merge1Ideal_MergeRefIdeal (hMerge1Ideal := hMerge1Ideal) (hMergeRefIdeal := hMergeRefIdeal)
    ∧ preserves_Merge2_Merge2Ideal
    ∧ algebraic_Merge2Ideal_MergedRefIdeal (hMerge2Ideal := hMerge2Ideal) (hMergedRefIdeal := hMergedRefIdeal)
    ∧ preserves_Project_ProjectIdeal
    ∧ algebraic_ProjectIdeal_HeadsRefIdeal (hProjectIdeal := hProjectIdeal) (hHeadsRefIdeal := hHeadsRefIdeal)
-- ==== Merge1.lean ====
abbrev S16384x1280 : Shape := ⟨2, ![16384, 1280]⟩
abbrev S1280 : Shape := ⟨1, ![1280]⟩
abbrev S5120x5120 : Shape := ⟨2, ![5120, 5120]⟩
abbrev S5120 : Shape := ⟨1, ![5120]⟩
abbrev S1x1280 : Shape := ⟨2, ![1, 1280]⟩
abbrev S1x5120 : Shape := ⟨2, ![1, 5120]⟩
abbrev S4096x5120 : Shape := ⟨2, ![4096, 5120]⟩
abbrev S32x128 : Shape := ⟨2, ![32, 128]⟩
abbrev S1024x1280 : Shape := ⟨2, ![1024, 1280]⟩
abbrev S256x5120 : Shape := ⟨2, ![256, 5120]⟩
abbrev S10x1024x128 : Shape := ⟨3, ![10, 1024, 128]⟩
abbrev S256x128 : Shape := ⟨2, ![256, 128]⟩
abbrev S1024x128 : Shape := ⟨2, ![1024, 128]⟩
abbrev S1x1024x128 : Shape := ⟨3, ![1, 1024, 128]⟩
abbrev S1x32x128 : Shape := ⟨3, ![1, 32, 128]⟩
abbrev S1x128 : Shape := ⟨2, ![1, 128]⟩
abbrev S32 : Shape := ⟨1, ![32]⟩
abbrev S32x1 : Shape := ⟨2, ![32, 1]⟩
abbrev S128x128 : Shape := ⟨2, ![128, 128]⟩
abbrev S128 : Shape := ⟨1, ![128]⟩
abbrev S5120x512 : Shape := ⟨2, ![5120, 512]⟩
abbrev S256x512 : Shape := ⟨2, ![256, 512]⟩
abbrev S1x512 : Shape := ⟨2, ![1, 512]⟩
abbrev S32x5120 : Shape := ⟨2, ![32, 5120]⟩

abbrev nBuf : Space → Nat
  | .hbm => 12
  | .vmem => 16
  | .smem => 0
  | _ => 0

abbrev bufTy : (tb : Table) → Fin (tcTables nBuf tb) → BufTy
  | .hbm, ⟨0, _⟩ => ⟨S16384x1280, .bf16⟩
  | .hbm, ⟨1, _⟩ => ⟨S1280, .f32⟩
  | .hbm, ⟨2, _⟩ => ⟨S5120x5120, .fp8e4m3⟩
  | .hbm, ⟨3, _⟩ => ⟨S5120, .f32⟩
  | .hbm, ⟨4, _⟩ => ⟨S5120, .f32⟩
  | .hbm, ⟨5, _⟩ => ⟨S1x1280, .f32⟩
  | .hbm, ⟨6, _⟩ => ⟨S1x5120, .f32⟩
  | .hbm, ⟨7, _⟩ => ⟨S1x5120, .f32⟩
  | .hbm, ⟨8, _⟩ => ⟨S4096x5120, .fp8e4m3⟩
  | .hbm, ⟨9, _⟩ => ⟨S32x128, .f32⟩
  | .hbm, ⟨10, _⟩ => ⟨S4096x5120, .fp8e4m3⟩
  | .hbm, ⟨11, _⟩ => ⟨S32x128, .f32⟩
  | .local _ .vmem, ⟨0, _⟩ => ⟨S1024x1280, .bf16⟩
  | .local _ .vmem, ⟨1, _⟩ => ⟨S1024x1280, .bf16⟩
  | .local _ .vmem, ⟨2, _⟩ => ⟨S1x1280, .f32⟩
  | .local _ .vmem, ⟨3, _⟩ => ⟨S5120x5120, .fp8e4m3⟩
  | .local _ .vmem, ⟨4, _⟩ => ⟨S1x5120, .f32⟩
  | .local _ .vmem, ⟨5, _⟩ => ⟨S1x5120, .f32⟩
  | .local _ .vmem, ⟨6, _⟩ => ⟨S256x5120, .fp8e4m3⟩
  | .local _ .vmem, ⟨7, _⟩ => ⟨S256x5120, .fp8e4m3⟩
  | .local _ .vmem, ⟨8, _⟩ => ⟨S32x128, .f32⟩
  | .local _ .vmem, ⟨9, _⟩ => ⟨S256x5120, .fp8e4m3⟩
  | .local _ .vmem, ⟨10, _⟩ => ⟨S256x5120, .fp8e4m3⟩
  | .local _ .vmem, ⟨11, _⟩ => ⟨S32x128, .f32⟩
  | .local _ .vmem, ⟨12, _⟩ => ⟨S10x1024x128, .f32⟩
  | .local _ .vmem, ⟨13, _⟩ => ⟨S256x5120, .f32⟩
  | .local _ .vmem, ⟨14, _⟩ => ⟨S256x128, .f32⟩
  | .local _ .vmem, ⟨15, _⟩ => ⟨S256x128, .f32⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let arg0 : BitVec 32 := BitVec.ofNat 32 (i 0).val
  let c2_i32 : BitVec 32 := 2#32
  let v8090 : BitVec 32 := Scalar.muli arg0 c2_i32
  let v8091 : BitVec 32 := Scalar.addi v8090 c0_i32
  let v8092 : Index := Scalar.indexCast v8091
  let c0_4729 : Index := 0#32
  ![v8092.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MergeRefIdeal.lean ====
abbrev S16384x1280 : Shape := ⟨2, ![16384, 1280]⟩
abbrev S1280 : Shape := ⟨1, ![1280]⟩
abbrev S5120x5120 : Shape := ⟨2, ![5120, 5120]⟩
abbrev S5120 : Shape := ⟨1, ![5120]⟩
abbrev S_ : Shape := ⟨0, ![]⟩
abbrev S16384 : Shape := ⟨1, ![16384]⟩
abbrev S16384x1 : Shape := ⟨2, ![16384, 1]⟩
abbrev S1x1280 : Shape := ⟨2, ![1, 1280]⟩
abbrev S4096x5120 : Shape := ⟨2, ![4096, 5120]⟩
abbrev S4096 : Shape := ⟨1, ![4096]⟩
abbrev S4096x1 : Shape := ⟨2, ![4096, 1]⟩
abbrev S1x5120 : Shape := ⟨2, ![1, 5120]⟩
abbrev S32x128 : Shape := ⟨2, ![32, 128]⟩

abbrev nBuf : Space → Nat
  | .hbm => 54
  | .vmem => 8
  | .smem => 0
  | _ => 0

abbrev bufTy : (tb : Table) → Fin (tcTables nBuf tb) → BufTy
  | .hbm, ⟨0, _⟩ => ⟨S16384x1280, .bf16⟩
  | .hbm, ⟨1, _⟩ => ⟨S1280, .f32⟩
  | .hbm, ⟨2, _⟩ => ⟨S5120x5120, .fp8e4m3⟩
  | .hbm, ⟨3, _⟩ => ⟨S5120, .f32⟩
  | .hbm, ⟨4, _⟩ => ⟨S5120, .f32⟩
  | .hbm, ⟨5, _⟩ => ⟨S16384x1280, .f32⟩
  | .hbm, ⟨6, _⟩ => ⟨S16384x1280, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1280, .f32⟩
  | .hbm, ⟨18, _⟩ => ⟨S16384x1280, .f32⟩
  | .hbm, ⟨19, _⟩ => ⟨S1x1280, .f32⟩
  | .hbm, ⟨20, _⟩ => ⟨S16384x1280, .f32⟩
  | .hbm, ⟨21, _⟩ => ⟨S16384x1280, .f32⟩
  | .hbm, ⟨22, _⟩ => ⟨S4096x5120, .f32⟩
  | .hbm, ⟨23, _⟩ => ⟨S4096x5120, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .i1⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096x1, .f32⟩
  | .hbm, ⟨37, _⟩ => ⟨S4096x5120, .f32⟩
  | .hbm, ⟨38, _⟩ => ⟨S4096x5120, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x5120, .f32⟩
  | .hbm, ⟨43, _⟩ => ⟨S4096x5120, .f32⟩
  | .hbm, ⟨44, _⟩ => ⟨S_, .f32⟩
  | .hbm, ⟨45, _⟩ => ⟨S4096x5120, .f32⟩
  | .hbm, ⟨46, _⟩ => ⟨S4096x5120, .f32⟩
  | .hbm, ⟨47, _⟩ => ⟨S4096x1, .f32⟩
  | .hbm, ⟨48, _⟩ => ⟨S1x5120, .f32⟩
  | .hbm, ⟨49, _⟩ => ⟨S1x5120, .f32⟩
  | .hbm, ⟨50, _⟩ => ⟨S4096x5120, .fp8e4m3⟩
  | .hbm, ⟨51, _⟩ => ⟨S4096x5120, .fp8e4m3⟩
  | .hbm, ⟨52, _⟩ => ⟨S32x128, .f32⟩
  | .hbm, ⟨53, _⟩ => ⟨S32x128, .f32⟩
  | .local _ .vmem, ⟨0, _⟩ => ⟨S4096x5120, .f32⟩
  | .local _ .vmem, ⟨1, _⟩ => ⟨S4096x1, .f32⟩
  | .local _ .vmem, ⟨2, _⟩ => ⟨S5120x5120, .fp8e4m3⟩
  | .local _ .vmem, ⟨3, _⟩ => ⟨S1x5120, .f32⟩
  | .local _ .vmem, ⟨4, _⟩ => ⟨S1x5120, .f32⟩
  | .local _ .vmem, ⟨5, _⟩ => ⟨S4096x5120, .fp8e4m3⟩
  | .local _ .vmem, ⟨6, _⟩ => ⟨S4096x5120, .fp8e4m3⟩
  | .local _ .vmem, ⟨7, _⟩ => ⟨S32x128, .f32⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_v30 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Merge2.lean ====
abbrev S4096x5120 : Shape := ⟨2, ![4096, 5120]⟩
abbrev S32x128 : Shape := ⟨2, ![32, 128]⟩
abbrev S5120x3584 : Shape := ⟨2, ![5120, 3584]⟩
abbrev S3584 : Shape := ⟨1, ![3584]⟩
abbrev S1x3584 : Shape := ⟨2, ![1, 3584]⟩
abbrev S4096x3584 : Shape := ⟨2, ![4096, 3584]⟩
abbrev S256x5120 : Shape := ⟨2, ![256, 5120]⟩
abbrev S256x3584 : Shape := ⟨2, ![256, 3584]⟩
abbrev S256x128 : Shape := ⟨2, ![256, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S5120x512 : Shape := ⟨2, ![5120, 512]⟩
abbrev S256x512 : Shape := ⟨2, ![256, 512]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x5120, .fp8e4m3⟩
  | .hbm, ⟨1, _⟩ => ⟨S32x128, .f32⟩
  | .hbm, ⟨2, _⟩ => ⟨S5120x3584, .fp8e4m3⟩
  | .hbm, ⟨3, _⟩ => ⟨S3584, .f32⟩
  | .hbm, ⟨4, _⟩ => ⟨S3584, .f32⟩
  | .hbm, ⟨5, _⟩ => ⟨S1x3584, .f32⟩
  | .hbm, ⟨6, _⟩ => ⟨S1x3584, .f32⟩
  | .hbm, ⟨7, _⟩ => ⟨S4096x3584, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S32x128, .f32⟩
  | .local _ .vmem, ⟨3, _⟩ => ⟨S5120x3584, .fp8e4m3⟩
  | .local _ .vmem, ⟨4, _⟩ => ⟨S1x3584, .f32⟩
  | .local _ .vmem, ⟨5, _⟩ => ⟨S1x3584, .f32⟩
  | .local _ .vmem, ⟨6, _⟩ => ⟨S256x3584, .f32⟩
  | .local _ .vmem, ⟨7, _⟩ => ⟨S256x3584, .f32⟩
  | .local _ .vmem, ⟨8, _⟩ => ⟨S256x128, .f32⟩
  | _, _ => ⟨S4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergedRefIdeal.lean ====
abbrev S4096x5120 : Shape := ⟨2, ![4096, 5120]⟩
abbrev S32x128 : Shape := ⟨2, ![32, 128]⟩
abbrev S5120x3584 : Shape := ⟨2, ![5120, 3584]⟩
abbrev S3584 : Shape := ⟨1, ![3584]⟩
abbrev S4096 : Shape := ⟨1, ![4096]⟩
abbrev S4096x1 : Shape := ⟨2, ![4096, 1]⟩
abbrev S1x3584 : Shape := ⟨2, ![1, 3584]⟩
abbrev S4096x3584 : Shape := ⟨2, ![4096, 3584]⟩

abbrev nBuf : Space → Nat
  | .hbm => 10
  | .vmem => 6
  | .smem => 0
  | _ => 0

abbrev bufTy : (tb : Table) → Fin (tcTables nBuf tb) → BufTy
  | .hbm, ⟨0, _⟩ => ⟨S4096x5120, .fp8e4m3⟩
  | .hbm, ⟨1, _⟩ => ⟨S32x128, .f32⟩
  | .hbm, ⟨2, _⟩ => ⟨S5120x3584, .fp8e4m3⟩
  | .hbm, ⟨3, _⟩ => ⟨S3584, .f32⟩
  | .hbm, ⟨4, _⟩ => ⟨S3584, .f32⟩
  | .hbm, ⟨5, _⟩ => ⟨S4096, .f32⟩
  | .hbm, ⟨6, _⟩ => ⟨S4096x1, .f32⟩
  | .hbm, ⟨7, _⟩ => ⟨S1x3584, .f32⟩
  | .hbm, ⟨8, _⟩ => ⟨S1x3584, .f32⟩
  | .hbm, ⟨9, _⟩ => ⟨S4096x3584, .f32⟩
  | .local _ .vmem, ⟨0, _⟩ => ⟨S4096x5120, .fp8e4m3⟩
  | .local _ .vmem, ⟨1, _⟩ => ⟨S4096x1, .f32⟩
  | .local _ .vmem, ⟨2, _⟩ => ⟨S5120x3584, .fp8e4m3⟩
  | .local _ .vmem, ⟨3, _⟩ => ⟨S1x3584, .f32⟩
  | .local _ .vmem, ⟨4, _⟩ => ⟨S1x3584, .f32⟩
  | .local _ .vmem, ⟨5, _⟩ => ⟨S4096x3584, .f32⟩
  | _, _ => ⟨S4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Project.lean ====
abbrev S8192x3584 : Shape := ⟨2, ![8192, 3584]⟩
abbrev S8192 : Shape := ⟨1, ![8192]⟩
abbrev S3584x4608 : Shape := ⟨2, ![3584, 4608]⟩
abbrev S4608 : Shape := ⟨1, ![4608]⟩
abbrev S3x8192x64 : Shape := ⟨3, ![3, 8192, 64]⟩
abbrev S8192x1 : Shape := ⟨2, ![8192, 1]⟩
abbrev S8192x128 : Shape := ⟨2, ![8192, 128]⟩
abbrev S1x4608 : Shape := ⟨2, ![1, 4608]⟩
abbrev S3x64x8192 : Shape := ⟨3, ![3, 64, 8192]⟩
abbrev S28x8192x128 : Shape := ⟨3, ![28, 8192, 128]⟩
abbrev S256x3584 : Shape := ⟨2, ![256, 3584]⟩
abbrev S256x128 : Shape := ⟨2, ![256, 128]⟩
abbrev S3x64x256 : Shape := ⟨3, ![3, 64, 256]⟩
abbrev S28x256x128 : Shape := ⟨3, ![28, 256, 128]⟩
abbrev S1x16x256 : Shape := ⟨3, ![1, 16, 256]⟩
abbrev S16x256 : Shape := ⟨2, ![16, 256]⟩
abbrev S1x24x256 : Shape := ⟨3, ![1, 24, 256]⟩
abbrev S24x256 : Shape := ⟨2, ![24, 256]⟩
abbrev S64x256 : Shape := ⟨2, ![64, 256]⟩
abbrev S128x256 : Shape := ⟨2, ![128, 256]⟩
abbrev S3584x512 : Shape := ⟨2, ![3584, 512]⟩
abbrev S256x512 : Shape := ⟨2, ![256, 512]⟩
abbrev S1x512 : Shape := ⟨2, ![1, 512]⟩
abbrev S1x256x128 : Shape := ⟨3, ![1, 256, 128]⟩

abbrev nBuf : Space → Nat
  | .hbm => 14
  | .vmem => 15
  | .smem => 0
  | _ => 0

abbrev bufTy : (tb : Table) → Fin (tcTables nBuf tb) → BufTy
  | .hbm, ⟨0, _⟩ => ⟨S8192x3584, .fp8e4m3⟩
  | .hbm, ⟨1, _⟩ => ⟨S8192, .f32⟩
  | .hbm, ⟨2, _⟩ => ⟨S3584x4608, .fp8e4m3⟩
  | .hbm, ⟨3, _⟩ => ⟨S4608, .f32⟩
  | .hbm, ⟨4, _⟩ => ⟨S4608, .f32⟩
  | .hbm, ⟨5, _⟩ => ⟨S3x8192x64, .f32⟩
  | .hbm, ⟨6, _⟩ => ⟨S3x8192x64, .f32⟩
  | .hbm, ⟨7, _⟩ => ⟨S8192x1, .f32⟩
  | .hbm, ⟨8, _⟩ => ⟨S8192x128, .f32⟩
  | .hbm, ⟨9, _⟩ => ⟨S1x4608, .f32⟩
  | .hbm, ⟨10, _⟩ => ⟨S1x4608, .f32⟩
  | .hbm, ⟨11, _⟩ => ⟨S3x64x8192, .f32⟩
  | .hbm, ⟨12, _⟩ => ⟨S3x64x8192, .f32⟩
  | .hbm, ⟨13, _⟩ => ⟨S28x8192x128, .bf16⟩
  | .local _ .vmem, ⟨0, _⟩ => ⟨S256x3584, .fp8e4m3⟩
  | .local _ .vmem, ⟨1, _⟩ => ⟨S256x3584, .fp8e4m3⟩
  | .local _ .vmem, ⟨2, _⟩ => ⟨S256x128, .f32⟩
  | .local _ .vmem, ⟨3, _⟩ => ⟨S256x128, .f32⟩
  | .local _ .vmem, ⟨4, _⟩ => ⟨S3584x4608, .fp8e4m3⟩
  | .local _ .vmem, ⟨5, _⟩ => ⟨S1x4608, .f32⟩
  | .local _ .vmem, ⟨6, _⟩ => ⟨S1x4608, .f32⟩
  | .local _ .vmem, ⟨7, _⟩ => ⟨S3x64x256, .f32⟩
  | .local _ .vmem, ⟨8, _⟩ => ⟨S3x64x256, .f32⟩
  | .local _ .vmem, ⟨9, _⟩ => ⟨S3x64x256, .f32⟩
  | .local _ .vmem, ⟨10, _⟩ => ⟨S3x64x256, .f32⟩
  | .local _ .vmem, ⟨11, _⟩ => ⟨S28x256x128, .bf16⟩
  | .local _ .vmem, ⟨12, _⟩ => ⟨S28x256x128, .bf16⟩
  | .local _ .vmem, ⟨13, _⟩ => ⟨S256x128, .f32⟩
  | .local _ .vmem, ⟨14, _⟩ => ⟨S256x128, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S28x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HeadsRefIdeal.lean ====
abbrev S8192x3584 : Shape := ⟨2, ![8192, 3584]⟩
abbrev S8192 : Shape := ⟨1, ![8192]⟩
abbrev S3584x4608 : Shape := ⟨2, ![3584, 4608]⟩
abbrev S4608 : Shape := ⟨1, ![4608]⟩
abbrev S3x8192x64 : Shape := ⟨3, ![3, 8192, 64]⟩
abbrev S1x8192x16 : Shape := ⟨3, ![1, 8192, 16]⟩
abbrev S8192x16 : Shape := ⟨2, ![8192, 16]⟩
abbrev S1x8192x24 : Shape := ⟨3, ![1, 8192, 24]⟩
abbrev S8192x24 : Shape := ⟨2, ![8192, 24]⟩
abbrev S8192x64 : Shape := ⟨2, ![8192, 64]⟩
abbrev S8192x1 : Shape := ⟨2, ![8192, 1]⟩
abbrev S1x4608 : Shape := ⟨2, ![1, 4608]⟩
abbrev S28x8192x128 : Shape := ⟨3, ![28, 8192, 128]⟩
abbrev S8192x4608 : Shape := ⟨2, ![8192, 4608]⟩
abbrev S8192x128 : Shape := ⟨2, ![8192, 128]⟩
abbrev S1x8192x128 : Shape := ⟨3, ![1, 8192, 128]⟩

abbrev nBuf : Space → Nat
  | .hbm => 25
  | .vmem => 8
  | .smem => 0
  | _ => 0

abbrev bufTy : (tb : Table) → Fin (tcTables nBuf tb) → BufTy
  | .hbm, ⟨0, _⟩ => ⟨S8192x3584, .fp8e4m3⟩
  | .hbm, ⟨1, _⟩ => ⟨S8192, .f32⟩
  | .hbm, ⟨2, _⟩ => ⟨S3584x4608, .fp8e4m3⟩
  | .hbm, ⟨3, _⟩ => ⟨S4608, .f32⟩
  | .hbm, ⟨4, _⟩ => ⟨S4608, .f32⟩
  | .hbm, ⟨5, _⟩ => ⟨S3x8192x64, .f32⟩
  | .hbm, ⟨6, _⟩ => ⟨S3x8192x64, .f32⟩
  | .hbm, ⟨7, _⟩ => ⟨S1x8192x16, .f32⟩
  | .hbm, ⟨8, _⟩ => ⟨S8192x16, .f32⟩
  | .hbm, ⟨9, _⟩ => ⟨S1x8192x24, .f32⟩
  | .hbm, ⟨10, _⟩ => ⟨S8192x24, .f32⟩
  | .hbm, ⟨11, _⟩ => ⟨S1x8192x24, .f32⟩
  | .hbm, ⟨12, _⟩ => ⟨S8192x24, .f32⟩
  | .hbm, ⟨13, _⟩ => ⟨S8192x64, .f32⟩
  | .hbm, ⟨14, _⟩ => ⟨S1x8192x16, .f32⟩
  | .hbm, ⟨15, _⟩ => ⟨S8192x16, .f32⟩
  | .hbm, ⟨16, _⟩ => ⟨S1x8192x24, .f32⟩
  | .hbm, ⟨17, _⟩ => ⟨S8192x24, .f32⟩
  | .hbm, ⟨18, _⟩ => ⟨S1x8192x24, .f32⟩
  | .hbm, ⟨19, _⟩ => ⟨S8192x24, .f32⟩
  | .hbm, ⟨20, _⟩ => ⟨S8192x64, .f32⟩
  | .hbm, ⟨21, _⟩ => ⟨S8192x1, .f32⟩
  | .hbm, ⟨22, _⟩ => ⟨S1x4608, .f32⟩
  | .hbm, ⟨23, _⟩ => ⟨S1x4608, .f32⟩
  | .hbm, ⟨24, _⟩ => ⟨S28x8192x128, .bf16⟩
  | .local _ .vmem, ⟨0, _⟩ => ⟨S8192x3584, .fp8e4m3⟩
  | .local _ .vmem, ⟨1, _⟩ => ⟨S8192x1, .f32⟩
  | .local _ .vmem, ⟨2, _⟩ => ⟨S3584x4608, .fp8e4m3⟩
  | .local _ .vmem, ⟨3, _⟩ => ⟨S1x4608, .f32⟩
  | .local _ .vmem, ⟨4, _⟩ => ⟨S1x4608, .f32⟩
  | .local _ .vmem, ⟨5, _⟩ => ⟨S8192x64, .f32⟩
  | .local _ .vmem, ⟨6, _⟩ => ⟨S8192x64, .f32⟩
  | .local _ .vmem, ⟨7, _⟩ => ⟨S28x8192x128, .bf16⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S28x8192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Merge2Value.lean ====
module

public import proofs.«01_k».proof.Proof.Gen.Merge2Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Merge2Ideal.Linear

open Cert.Merge2Ideal Cert.Merge2Ideal.Gen

variable (m : (ℓ : Loc nD τ sig) → Buf (Elt Ideal) ℓ)

/-- Entry (i, j) of the dequantised linear layer. -/
def linear (q : FVec Ideal S4096x5120 .fp8e4m3) (s : FVec Ideal S32x128 .f32) (w : FVec Ideal S5120x3584 .fp8e4m3)
    (ws b : FVec Ideal S3584 .f32) : FVec Ideal S4096x3584 .f32 := fun j =>
  (∑ k : Fin 5120, q (ix2 (j 0) k) * w (ix2 k (j 1)))
    * s (ix2 (⟨((j 0 : ℕ)) / 128, by have : (j 0 : ℕ) < 4096 := (j 0).isLt; omega⟩ : Fin 32) (⟨(j 0 : ℕ) % 128, by omega⟩ : Fin 128)) * ws (ix1 (j 1)) + b (ix1 (j 1))

/-- The block index of every window at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The two rows of the scale array that a grid point reads. -/
theorem off (t : Fin cfg0.N) : k0_off1 (grid0.coords t) 0#32 = ![2 * t.val, 0] ∧ k0_off1 (grid0.coords t) 1#32 = ![2 * t.val + 1, 0] :=
  (by decide +kernel : ∀ t : Fin grid0.N, k0_off1 (grid0.coords t) 0#32 = ![2 * t.val, 0] ∧ k0_off1 (grid0.coords t) 1#32 = ![2 * t.val + 1, 0]) t

/-- A sum under the identity mask keeps the one term on the diagonal. -/
theorem eye_sum (f : Fin 128 → EReal) (i : Fin 128) :
    ∑ k : Fin 128, Scalar.select (IntOp.cmpi .eq (BitVec.ofNat 32 ↑i) (BitVec.ofNat 32 ↑k)) (f k) 0 = f i := by
  have hne : ∀ k : Fin 128, k ≠ i → ¬(BitVec.ofNat 32 (i : ℕ) = BitVec.ofNat 32 (k : ℕ)) := by
    intro k hk h
    have h2 := congrArg BitVec.toNat h
    simp only [BitVec.toNat_ofNat] at h2
    have := i.isLt; have := k.isLt
    exact hk (Fin.ext (by omega))
  rw [Finset.sum_eq_single i (fun k _ hk => by rw [show IntOp.cmpi .eq (BitVec.ofNat 32 (i : ℕ)) (BitVec.ofNat 32 (k : ℕ)) = 0#1 by simp only [IntOp.cmpi, beq_eq_false_iff_ne.mpr (hne k hk)]; rfl]; rfl) (fun h => absurd (Finset.mem_univ i) h)]
  simp [Scalar.select, IntOp.cmpi]

/-- The mask and the row sum turn a row of 128 scales into a column, repeated along the lanes. -/
theorem col (v : FVec Ideal S1x128 .f32) (x : S128x128.Idx) : k0_pay2 v x = v (ix2 0 (x 0)) := by
  idx_vars x
  pointwise [k0_pay2]
  exact eye_sum (fun k => v (ix2 0 k)) x0

/-- The same for the second row. -/
theorem col' (v : FVec Ideal S1x128 .f32) (x : S128x128.Idx) : k0_pay3 v x = v (ix2 0 (x 0)) := col v x

/-- One column chunk of the output at an index: the product over 5120 columns, the two scales, the bias. -/
theorem pay_at (q : FVec Ideal S256x5120 .fp8e4m3) (w : FVec Ideal S5120x512 .fp8e4m3) (sc : FVec Ideal S256x128 .f32)
    (ws b : FVec Ideal S1x512 .f32) (x : S256x512.Idx) :
    k0_pay5 (F := Ideal) q w sc ws b x = (∑ k : Fin 5120, q (ix2 (x 0) k) * w (ix2 k (x 1)))
      * sc (ix2 (x 0) (⟨(x 1 : ℕ) % 128, by omega⟩ : Fin 128)) * ws (ix2 0 (x 1)) + b (ix2 0 (x 1)) := by
  pointwise [k0_pay5]
  blk_point []

/-- The block of codes is 256 rows of the array of codes. -/
theorem blk0 (c : Dev nD) (t : Fin cfg0.N) (r : Fin 256) (k : Fin 5120) : (iblk m c 0 t : FVec Ideal S256x5120 .fp8e4m3) (ix2 r k)
    = (m ((c : Thread nD τ).loc main_arg0) : FVec Ideal S4096x5120 .fp8e4m3) (ix2 (⟨t.val * 256 + r.val, by have : t.val < 16 := lt_of_lt_of_eq t.isLt N_0; omega⟩ : Fin 4096) k) := by
  blk_ext [iblk, V, idx t]

/-- The block of weights is the whole array. -/
theorem blk2 (c : Dev nD) (t : Fin cfg0.N) (k : Fin 5120) (j : Fin 3584) : (iblk m c 2 t : FVec Ideal S5120x3584 .fp8e4m3) (ix2 k j)
    = (m ((c : Thread nD τ).loc main_arg2) : FVec Ideal S5120x3584 .fp8e4m3) (ix2 k j) := by
  blk_ext [iblk, V, idx t]

/-- The block of weight scales is the whole row. -/
theorem blk3 (c : Dev nD) (t : Fin cfg0.N) (j : Fin 3584) : (iblk m c 3 t : FVec Ideal S1x3584 .f32) (ix2 0 j)
    = (m ((c : Thread nD τ).loc main_arg3) : FVec Ideal S3584 .f32) (ix1 j) := by
  blk_ext! [iblk, V, idx t]

/-- The block of biases is the whole row. -/
theorem blk4 (c : Dev nD) (t : Fin cfg0.N) (j : Fin 3584) : (iblk m c 4 t : FVec Ideal S1x3584 .f32) (ix2 0 j)
    = (m ((c : Thread nD τ).loc main_arg4) : FVec Ideal S3584 .f32) (ix1 j) := by
  blk_ext! [iblk, V, idx t]

/-- The result array after the run is the dequantised linear layer of the arguments. -/
theorem final (c : Dev nD) : (dats m 0 c).arrAt 5 (cfgs 0).N
    = linear (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  have ht : t.val < 16 := lt_of_lt_of_eq t.isLt N_0
  generalize hS : View.readCov (Val := Elt Ideal) (View.whole cc0_scratch0) _ _ = SC
  have hSC : ∀ i : S256x128.Idx, SC i = m ((c : Thread nD τ).loc main_arg1) (ix2 (⟨2 * t.val + (i 0 : ℕ) / 128, by have : (i 0 : ℕ) < 256 := (i 0).isLt; omega⟩ : Fin 32) (⟨(i 0 : ℕ) % 128, by omega⟩ : Fin 128)) := by
    intro i
    rw [← hS, View.readCov_eq_canon']
    canon_tiles x h
    all_goals
      have hi : (i 0 : ℕ) < 256 := (i 0).isLt
      rw [Rect.idx_unit_val] at h0
      change 0 + (i 0 : ℕ) = _ at h0
      first | rw [col] | rw [col']
    · refine (View.ld_unit_apply_of _ _ _ _ _ (ix2 (⟨2 * t.val + 1, by omega⟩ : Fin 32) (x 0)) fun a => ?_).trans ?_
      · refine Eq.trans ?_ (congrArg (· + _) (congrFun (off t).2 a).symm)
        match a with
        | ⟨0, _⟩ => rfl
        | ⟨1, _⟩ => exact (Nat.zero_add _).symm
      · blk_ext [iblk, V, idx t]
    · refine (View.ld_unit_apply_of _ _ _ _ _ (ix2 (⟨2 * t.val, by omega⟩ : Fin 32) (x 0)) fun a => ?_).trans ?_
      · refine Eq.trans ?_ (congrArg (· + _) (congrFun (off t).1 a).symm)
        match a with
        | ⟨0, _⟩ => rfl
        | ⟨1, _⟩ => exact (Nat.zero_add _).symm
      · blk_ext [iblk, V, idx t]
  clear hS
  canon_tiles x h
  all_goals
    refine (pay_at (iblk m c 0 t) _ SC _ _ x).trans ?_
    pointwise [linear, hSC, blk0, blk2, blk3, blk4]
    blk_point [idx t]

end Cert.Merge2Ideal.Linear
-- ==== Proof.MergeBits.lean ====
/- The body of the first projection run once, for any reading of the floats: it ends, and leaves its inputs as they were.
   What it writes is not named here. -/
module

public import proofs.«01_k».proof.Proof.Gen.Merge1.Frame
public import proofs.«01_k».proof.Proof.Gen.Merge1.Skeleton

@[expose] public section

set_option maxRecDepth 16384

noncomputable section

namespace Cert.Merge1.Run

open Cert.Merge1 Cert.Merge1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of each window at a point of the grid. -/
abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .f32 := win0_8.stage (cfg0.slots t 8)
abbrev hs0_8 (t : Fin cfg0.N) : (ms0_8 t).IsWhole := hstage0_8 ((cfg0.slots t 8).cast nbuf0_8)
/-- The four scratch buffers. -/
abbrev scM0_0 : Memref sig .tc .vmem S10x1024x128 .f32 := Memref.whole cc0_scratch0
abbrev scM0_1 : Memref sig .tc .vmem S256x5120 .f32 := Memref.whole cc0_scratch1
abbrev scM0_2 : Memref sig .tc .vmem S256x128 .f32 := Memref.whole cc0_scratch2
abbrev scM0_3 : Memref sig .tc .vmem S256x128 .f32 := Memref.whole cc0_scratch3

/-- What the body keeps between points: its scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 11116000 in
/-- The body run once, on any staging buffers: it reads the five inputs and hands them back as they were, and hands back
    the four outputs and the scratch buffers at some contents. -/
theorem body_run (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .vmem S256x5120 .fp8e4m3) (harg6 : arg6.IsWhole) (arg7 : Memref sig .tc .vmem S32x128 .f32) (harg7 : arg7.IsWhole) (arg8 : Memref sig .tc .vmem S256x5120 .fp8e4m3) (harg8 : arg8.IsWhole) (arg9 : Memref sig .tc .vmem S32x128 .f32) (harg9 : arg9.IsWhole) (arg10 : Memref sig .tc .vmem S10x1024x128 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S1024x1280 .bf16) (x1 : Vec F S1x1280 .f32) (x2 : Vec F S5120x5120 .fp8e4m3) (x3 : Vec F S1x5120 .f32) (x4 : Vec F S1x5120 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_merge1 i arg1 harg1 arg2 harg2 arg3 harg3 arg4 harg4 arg5 harg5 arg6 harg6 arg7 harg7 arg8 harg8 arg9 harg9 arg10 harg10 arg11 harg11 arg12 harg12 arg13 harg13) K := by
    intro E K
    simp only [cc0_merge1_eq_skeleton]; unfold cc0_merge1_skel
    simp only [k0_part238_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part239_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part240_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part241_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Merge1.Run

end
-- ==== Proof.MergeBitsFrame.lean ====
/- The first projection as it is printed, for any reading of the floats: every run ends, with the arguments unchanged and
   every counter at zero. -/
module

public import proofs.«01_k».proof.Proof.MergeBits
public import Idealize.ShloMosaic.Lib.Claim

@[expose] public section

set_option maxRecDepth 16384

noncomputable section

namespace Cert.Merge1.Run

open Cert.Merge1 Cert.Merge1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four outputs, whose contents are not named. -/
def forgets0 : Fin 9 → Bool := fun w => w.val == 5 || w.val == 6 || w.val == 7 || w.val == 8

/-- What the buffers hold after a point: each input its block; nothing is said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The arrays are as the host lines left them. -/
theorem A_eq (c : Dev nD) (w : Fin cfg0.W) : (dats m 0 c).A w = V m c (Pipeline.arrRef spec0 w) := by
  dsimp only [dats]

/-- What an input's buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- What an input's buffer holds before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1200000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The body, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole program: what its arrays hold at the end, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program: every input array is unchanged, and every other buffer is as the host lines left it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run which keeps the input arrays of the pipeline and the other buffers keeps the arguments. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (fun c => (dats m 0 c).toRForget forgets0) (A_eq m) (run_main m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Merge1.Run

end
-- ==== Proof.MergeRun.lean ====
/- The run of the first projection's kernel body, once, on whole staging buffers: what each output buffer and
   each scratch buffer receives, as the list of its stores. -/
module

public import proofs.«01_k».proof.Proof.Gen.Merge1Ideal.Frame
public import proofs.«01_k».proof.Proof.Gen.Merge1Ideal.Skeleton
@[expose] public section

-- membership in a rectangle of production extents (`View.cover_of_tiled`): the elaborator's structural look
-- recurses once per coordinate of the long axes
set_option maxRecDepth 16384

noncomputable section

namespace Cert.Merge1Ideal.Run

open Cert.Merge1Ideal Cert.Merge1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 11116000 in
/-- What the body's stores leave in each output's staging buffer, as pieces (last first), with the proof that the
    body, on whole staging buffers, runs to the continuation holding the inputs as they were and each output's
    buffer with its pieces written: the two buffers of scale rows keep what the pieces do not cover. -/
noncomputable def bodyRun (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .vmem S256x5120 .fp8e4m3) (harg6 : arg6.IsWhole) (arg7 : Memref sig .tc .vmem S32x128 .f32) (harg7 : arg7.IsWhole) (arg8 : Memref sig .tc .vmem S256x5120 .fp8e4m3) (harg8 : arg8.IsWhole) (arg9 : Memref sig .tc .vmem S32x128 .f32) (harg9 : arg9.IsWhole) (arg10 : Memref sig .tc .vmem S10x1024x128 .f32) (harg10 : arg10.IsWhole) (arg11 : Memref sig .tc .vmem S256x5120 .f32) (harg11 : arg11.IsWhole) (arg12 : Memref sig .tc .vmem S256x128 .f32) (harg12 : arg12.IsWhole) (arg13 : Memref sig .tc .vmem S256x128 .f32) (harg13 : arg13.IsWhole)
    (x0 : Vec F S1024x1280 .bf16) (x1 : Vec F S1x1280 .f32) (x2 : Vec F S5120x5120 .fp8e4m3) (x3 : Vec F S1x5120 .f32) (x4 : Vec F S1x5120 .f32) :
    Σ' (L5 : List (View.Piece (Elt F) S256x5120 .fp8e4m3)), Σ' (L6 : List (View.Piece (Elt F) S32x128 .f32)), Σ' (L7 : List (View.Piece (Elt F) S256x5120 .fp8e4m3)), { L8 : List (View.Piece (Elt F) S32x128 .f32) //
      ∀ (E : Set ℕ) (K : PUnit → sProp 𝕄) (d6 d8 : Vec F S32x128 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare d6 ∗ (∃ d, owns (c : Thread nD τ) arg8 fullShare d) ∗ owns (c : Thread nD τ) arg9 fullShare d8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread d6) L6) ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread d8) L8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_merge1 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K d6 d8 => ?run⟩
  case run =>
    simp only [cc0_merge1_eq_skeleton]; unfold cc0_merge1_skel
    simp only [k0_part238_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part239_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part240_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part241_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexact H6
    isplitl [H7]
    · iexists _; iexact H7
    isplitl [H8]
    · iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Merge1Ideal.Run

end
-- ==== Proof.MergeModel.lean ====
/- The stores of the first projection's kernel body, written as loops: the run lists them one by one, here each is a
   function of its row block, patch and column chunk. -/
module

public import proofs.«01_k».proof.Proof.MergeRun
@[expose] public section

set_option maxRecDepth 16384

noncomputable section

namespace Cert.Merge1Ideal.Model

open Cert.Merge1Ideal Cert.Merge1Ideal.Gen
open Idealize.ShloMosaic Idealize.ShloMosaic.TcCoe

variable {F : FTy → Type} [FloatOps F]

/-! ## The rectangles -/

theorem pair_inb (k : Fin 10) : ∀ a, (![k.val, 0, 0] : Fin 3 → Nat) a + S1x1024x128.size a ≤ S10x1024x128.size a :=
  fun | 0 => (by have := k.2; show k.val + 1 ≤ 10; omega) | 1 => (by show 0 + 1024 ≤ 1024; omega) | 2 => (by show 0 + 128 ≤ 128; omega)
theorem vis_inb (k : Fin 10) : ∀ a, (![0, 128 * k.val] : Fin 2 → Nat) a + S1024x128.size a ≤ S1024x1280.size a :=
  fun | 0 => (by show 0 + 1024 ≤ 1024; omega) | 1 => (by have := k.2; show 128 * k.val + 128 ≤ 1280; omega)
theorem gain_inb (k : Fin 10) : ∀ a, (![0, 128 * k.val] : Fin 2 → Nat) a + S1x128.size a ≤ S1x1280.size a :=
  fun | 0 => (by show 0 + 1 ≤ 1; omega) | 1 => (by have := k.2; show 128 * k.val + 128 ≤ 1280; omega)
theorem patch_inb (i : Fin 8) (p : Fin 4) (k : Fin 10) : ∀ a, S1x32x128.size a = 0 ∨
    (![k.val, 128 * i.val + p.val, 0] : Fin 3 → Nat) a + (![1, 4, 1] : Fin 3 → Nat) a * (S1x32x128.size a - 1) < S10x1024x128.size a :=
  fun | 0 => .inr (by have := k.2; show k.val + 1 * (1 - 1) < 10; omega)
      | 1 => .inr (by have := i.2; have := p.2; show 128 * i.val + p.val + 4 * (32 - 1) < 1024; omega)
      | 2 => .inr (by show 0 + 1 * (128 - 1) < 128; omega)
theorem mc_inb (i : Fin 8) (p : Fin 4) (k : Fin 10) : ∀ a, (![32 * i.val, 1280 * p.val + 128 * k.val] : Fin 2 → Nat) a + S32x128.size a ≤ S256x5120.size a :=
  fun | 0 => (by have := i.2; show 32 * i.val + 32 ≤ 256; omega)
      | 1 => (by have := p.2; have := k.2; show 1280 * p.val + 128 * k.val + 128 ≤ 5120; omega)
theorem rs_inb (i : Fin 8) : ∀ a, (![32 * i.val, 0] : Fin 2 → Nat) a + S32x128.size a ≤ S256x128.size a :=
  fun | 0 => (by have := i.2; show 32 * i.val + 32 ≤ 256; omega) | 1 => (by show 0 + 128 ≤ 128; omega)
theorem gc_inb (i : Fin 8) : ∀ a, (![32 * i.val, 0] : Fin 2 → Nat) a + S32x5120.size a ≤ S256x5120.size a :=
  fun | 0 => (by have := i.2; show 32 * i.val + 32 ≤ 256; omega) | 1 => (by show 0 + 5120 ≤ 5120; omega)
theorem half_inb (k : Fin 2) : ∀ a, (![128 * k.val, 0] : Fin 2 → Nat) a + S128x128.size a ≤ S256x128.size a :=
  fun | 0 => (by have := k.2; show 128 * k.val + 128 ≤ 256; omega) | 1 => (by show 0 + 128 ≤ 128; omega)
theorem w_inb (j : Fin 10) : ∀ a, (![0, 512 * j.val] : Fin 2 → Nat) a + S5120x512.size a ≤ S5120x5120.size a :=
  fun | 0 => (by show 0 + 5120 ≤ 5120; omega) | 1 => (by have := j.2; show 512 * j.val + 512 ≤ 5120; omega)
theorem row_inb (j : Fin 10) : ∀ a, (![0, 512 * j.val] : Fin 2 → Nat) a + S1x512.size a ≤ S1x5120.size a :=
  fun | 0 => (by show 0 + 1 ≤ 1; omega) | 1 => (by have := j.2; show 512 * j.val + 512 ≤ 5120; omega)
theorem act_inb (j : Fin 10) : ∀ a, (![0, 512 * j.val] : Fin 2 → Nat) a + S256x512.size a ≤ S256x5120.size a :=
  fun | 0 => (by show 0 + 256 ≤ 256; omega) | 1 => (by have := j.2; show 512 * j.val + 512 ≤ 5120; omega)

/-! ## The first stage: the RMS norm and the row codes -/

section
variable (a1 : Memref sig .tc .vmem S1024x1280 .bf16) (h1 : a1.IsWhole) (a2 : Memref sig .tc .vmem S1x1280 .f32) (h2 : a2.IsWhole)
  (a10 : Memref sig .tc .vmem S10x1024x128 .f32) (x0 : Vec F S1024x1280 .bf16) (x1 : Vec F S1x1280 .f32)

/-- The store of column chunk `k`, widened. -/
def pairPiece (k : Fin 10) : View.Piece (Elt F) S10x1024x128 .f32 :=
  ⟨Rect.unit (s := S10x1024x128) ![k.val, 0, 0] S1x1024x128.size (pair_inb k),
    shapeCast S1x1024x128 (extf .f32 (a1.view.readAt (Elt F) (Rect.unit (s := S1024x1280) ![0, 128 * k.val] S1024x128.size (vis_inb k)).toLoadRect (h1.unread x0)) bitsLt_bf16_f32) shapeCasts_S1024x128_S1x1024x128⟩

def pairs : List (View.Piece (Elt F) S10x1024x128 .f32) := [9, 8, 7, 6, 5, 4, 3, 2, 1, 0].map fun k => pairPiece a1 h1 x0 k

/-- Row block `i`, patch `p`, chunk `k` of the features. -/
def patch (i : Fin 8) (p : Fin 4) (k : Fin 10) : FVec F S32x128 .f32 :=
  shapeCast S32x128 (a10.view.readCov (Val := Elt F) (pairs a1 h1 x0)
    (⟨![k.val, 128 * i.val + p.val, 0], S1x32x128.size, ![1, 4, 1], patch_inb i p k⟩ : LoadRect S10x1024x128)) shapeCasts_S1x32x128_S32x128

/-- Chunk `k` of the norm's gain, over the rows. -/
def gain (k : Fin 10) : FVec F S32x128 .f32 :=
  broadcastTo S32x128 (shapeCast S1x128 (a2.view.readAt (Elt F) (Rect.unit (s := S1x1280) ![0, 128 * k.val] S1x128.size (gain_inb k)).toLoadRect (h2.unread x1)) shapeCasts_S1x128_S1x128) broadcasts_S1x128_S32x128

def vg (i : Fin 8) (p : Fin 4) (k : Fin 10) : FVec F S32x128 .f32 := mulf (patch a1 h1 a10 x0 i p k) (gain a2 h2 x1 k)

/-- The lane sums of squares, chunk by chunk. -/
def ssAcc (i : Fin 8) (p : Fin 4) : List (Fin 10) → FVec F S32x128 .f32
  | [] => broadcast S32x128 (Scalar.ofBits .f32 0x00000000#32)
  | k :: ks => addf (ssAcc i p ks) (mulf (patch a1 h1 a10 x0 i p k) (patch a1 h1 a10 x0 i p k))

/-- The lane maxima of the weighted magnitudes, chunk by chunk. -/
def mxAcc (i : Fin 8) (p : Fin 4) : List (Fin 10) → FVec F S32x128 .f32
  | [] => broadcast S32x128 (Scalar.ofBits .f32 0x00000000#32)
  | k :: ks => maximumf (mxAcc i p ks) (absf (vg a1 h1 a2 h2 a10 x0 x1 i p k))

def inv (i : Fin 8) (p : Fin 4) : FVec F S32x1 .f32 :=
  divf (broadcast S32x1 (Scalar.ofBits .f32 0x3F800000#32)) (sqrt (addf (divf
    (shapeCast S32x1 (multiReduction .add [1] S32 (ssAcc a1 h1 a10 x0 i p [9, 8, 7, 6, 5, 4, 3, 2, 1, 0]) 0x00000000#32 reduces_S32x128_S32 (.inl rfl) rfl) shapeCasts_S32_S32x1)
    (broadcast S32x1 (Scalar.ofBits .f32 0x44A00000#32))) (broadcast S32x1 (Scalar.ofBits .f32 0x358637BD#32))))

def ap (i : Fin 8) (p : Fin 4) : FVec F S32x1 .f32 :=
  mulf (shapeCast S32x1 (multiReduction .maximumf [1] S32 (mxAcc a1 h1 a2 h2 a10 x0 x1 i p [9, 8, 7, 6, 5, 4, 3, 2, 1, 0]) 0xFF800000#32 reduces_S32x128_S32 (.inl rfl) rfl) shapeCasts_S32_S32x1)
    (inv a1 h1 a10 x0 i p)

/-- The row scale of a row maximum: one where the row is zero. -/
def rowScale (v : FVec F S32x1 .f32) : FVec F S32x1 .f32 :=
  select (cmpf .oeq v (broadcast S32x1 (Scalar.ofBits .f32 0x00000000#32))) (broadcast S32x1 (Scalar.ofBits .f32 0x3F800000#32))
    (divf v (broadcast S32x1 (Scalar.ofBits .f32 0x43E00000#32)))

def scale (i : Fin 8) : FVec F S32x1 .f32 :=
  rowScale (maximumf (maximumf (maximumf (ap a1 h1 a2 h2 a10 x0 x1 i 0) (ap a1 h1 a2 h2 a10 x0 x1 i 1)) (ap a1 h1 a2 h2 a10 x0 x1 i 2)) (ap a1 h1 a2 h2 a10 x0 x1 i 3))

def rscale (i : Fin 8) : FVec F S32x1 .f32 := divf (broadcast S32x1 (Scalar.ofBits .f32 0x3F800000#32)) (scale a1 h1 a2 h2 a10 x0 x1 i)

/-- One block of the row codes. -/
def mcVal (i : Fin 8) (p : Fin 4) (k : Fin 10) : FVec F S32x128 .fp8e4m3 :=
  truncf .fp8e4m3 (minimumf (broadcast S32x128 (Scalar.ofBits .f32 0x43E00000#32)) (maximumf (broadcast S32x128 (Scalar.ofBits .f32 0xC3E00000#32))
    (mulf (vg a1 h1 a2 h2 a10 x0 x1 i p k)
      (broadcastTo S32x128 (shapeCast S32x1 (mulf (inv a1 h1 a10 x0 i p) (rscale a1 h1 a2 h2 a10 x0 x1 i)) shapeCasts_S32x1_S32x1) broadcasts_S32x1_S32x128)))) bitsLt_fp8e4m3_f32

def mcPiece (i : Fin 8) (p : Fin 4) (k : Fin 10) : View.Piece (Elt F) S256x5120 .fp8e4m3 :=
  ⟨Rect.unit (s := S256x5120) ![32 * i.val, 1280 * p.val + 128 * k.val] S32x128.size (mc_inb i p k), mcVal a1 h1 a2 h2 a10 x0 x1 i p k⟩

def mcs : List (View.Piece (Elt F) S256x5120 .fp8e4m3) :=
  [7, 6, 5, 4, 3, 2, 1, 0].flatMap fun i => [3, 2, 1, 0].flatMap fun p => [9, 8, 7, 6, 5, 4, 3, 2, 1, 0].map fun k => mcPiece a1 h1 a2 h2 a10 x0 x1 i p k

/-- A row scale, over the lanes, stored for its row block. -/
def rsPiece (i : Fin 8) (v : FVec F S32x1 .f32) : View.Piece (Elt F) S256x128 .f32 :=
  ⟨Rect.unit (s := S256x128) ![32 * i.val, 0] S32x128.size (rs_inb i),
    shapeCast S32x128 (broadcastTo S32x128 (shapeCast S32x1 v shapeCasts_S32x1_S32x1) broadcasts_S32x1_S32x128) shapeCasts_S32x128_S32x128⟩

def rss : List (View.Piece (Elt F) S256x128 .f32) := [7, 6, 5, 4, 3, 2, 1, 0].map fun i => rsPiece i (scale a1 h1 a2 h2 a10 x0 x1 i)

end

/-- The diagonal of a square of equal rows' values, as one row. -/
def diagRow (v : Vec F S128x128 .f32) : FVec F S1x128 .f32 :=
  shapeCast S1x128 (multiReduction .add [0] S128 (select (cmpi .eq (iota .tc S128x128 32 [0] iota_S128x128_d0_w32) (iota .tc S128x128 32 [1] iota_S128x128_d1_w32)) v
    (broadcast S128x128 (Scalar.ofBits .f32 0x00000000#32))) 0x00000000#32 reduces_S128x128_S128 (.inl rfl) rfl) shapeCasts_S128_S1x128

/-- The two stores of a scale row, from the scales' scratch buffer. -/
def rowPieces (a12 : Memref sig .tc .vmem S256x128 .f32) (i : grid0.Coords) (L : List (View.Piece (Elt F) S256x128 .f32)) : List (View.Piece (Elt F) S32x128 .f32) :=
  [⟨Rect.unit (s := S32x128) (k0_off1 i 1#32) S1x128.size (k0_off1_inb i 1),
      diagRow (a12.view.readCov (Val := Elt F) L (Rect.unit (s := S256x128) ![128, 0] S128x128.size inb_S256x128_S128x128_128_0).toLoadRect)⟩,
   ⟨Rect.unit (s := S32x128) (k0_off1 i 0#32) S1x128.size (k0_off1_inb i 0),
      diagRow (a12.view.readCov (Val := Elt F) L (Rect.unit (s := S256x128) ![0, 0] S128x128.size inb_S256x128_S128x128_0_0).toLoadRect)⟩]

/-! ## The second stage: the projection, the activation and its row codes -/

section
variable (a3 : Memref sig .tc .vmem S5120x5120 .fp8e4m3) (h3 : a3.IsWhole) (a4 : Memref sig .tc .vmem S1x5120 .f32) (h4 : a4.IsWhole)
  (a5 : Memref sig .tc .vmem S1x5120 .f32) (h5 : a5.IsWhole)
  (a11 : Memref sig .tc .vmem S256x5120 .f32) (a13 : Memref sig .tc .vmem S256x128 .f32)
  (C : Vec F S256x5120 .fp8e4m3) (R : Vec F S256x128 .f32)
  (x2 : Vec F S5120x5120 .fp8e4m3) (x3 : Vec F S1x5120 .f32) (x4 : Vec F S1x5120 .f32)

/-- Chunk `j` of the projection, rescaled. -/
def zVal (j : Fin 10) : FVec F S256x512 .f32 :=
  addf (mulf (mulf (matmul dot_S256x5120_S5120x512_S256x512_1_0_0_1_n_n none (shapeCast S256x5120 C shapeCasts_S256x5120_S256x5120)
        (a3.view.readAt (Elt F) (Rect.unit (s := S5120x5120) ![0, 512 * j.val] S5120x512.size (w_inb j)).toLoadRect (h3.unread x2)) (constant S256x512 .f32 0x00000000#32))
      (concatenate S256x512 1 [⟨S256x128, R⟩, ⟨S256x128, R⟩, ⟨S256x128, R⟩, ⟨S256x128, R⟩] concatenates_S256x128_S256x128_S256x128_S256x128_S256x512_d1))
    (broadcastTo S256x512 (shapeCast S1x512 (a4.view.readAt (Elt F) (Rect.unit (s := S1x5120) ![0, 512 * j.val] S1x512.size (row_inb j)).toLoadRect (h4.unread x3)) shapeCasts_S1x512_S1x512) broadcasts_S1x512_S256x512))
    (broadcastTo S256x512 (shapeCast S1x512 (a5.view.readAt (Elt F) (Rect.unit (s := S1x5120) ![0, 512 * j.val] S1x512.size (row_inb j)).toLoadRect (h5.unread x4)) shapeCasts_S1x512_S1x512) broadcasts_S1x512_S256x512)

/-- The activation. -/
def gelu (z : FVec F S256x512 .f32) : FVec F S256x512 .f32 :=
  mulf (mulf (broadcast S256x512 (Scalar.ofBits .f32 0x3F000000#32)) z)
    (addf (broadcast S256x512 (Scalar.ofBits .f32 0x3F800000#32)) (erf (mulf z (broadcast S256x512 (Scalar.ofBits .f32 0x3F3504F3#32)))))

def actVal (j : Fin 10) : FVec F S256x512 .f32 := gelu (zVal a3 h3 a4 h4 a5 h5 C R x2 x3 x4 j)

def actPiece (j : Fin 10) : View.Piece (Elt F) S256x5120 .f32 :=
  ⟨Rect.unit (s := S256x5120) ![0, 512 * j.val] S256x512.size (act_inb j), shapeCast S256x512 (actVal a3 h3 a4 h4 a5 h5 C R x2 x3 x4 j) shapeCasts_S256x512_S256x512⟩

def acts : List (View.Piece (Elt F) S256x5120 .f32) := [9, 8, 7, 6, 5, 4, 3, 2, 1, 0].map fun j => actPiece a3 h3 a4 h4 a5 h5 C R x2 x3 x4 j

/-- The four lane groups of a chunk's magnitudes, folded. -/
def laneMax (v : FVec F S256x512 .f32) : FVec F S256x128 .f32 :=
  maximumf (maximumf (maximumf (extractStridedSlice S256x128 ![0, 0] v slices_S256x512_o0_0_S256x128) (extractStridedSlice S256x128 ![0, 128] v slices_S256x512_o0_128_S256x128))
    (extractStridedSlice S256x128 ![0, 256] v slices_S256x512_o0_256_S256x128)) (extractStridedSlice S256x128 ![0, 384] v slices_S256x512_o0_384_S256x128)

/-- The stores of the running lane maxima. -/
def mxs : List (Fin 10) → List (View.Piece (Elt F) S256x128 .f32)
  | [] => [⟨Rect.unit (s := S256x128) ![0, 0] S256x128.size inb_S256x128_S256x128_0_0, shapeCast S256x128 (broadcast S256x128 (Scalar.ofBits .f32 0x00000000#32)) shapeCasts_S256x128_S256x128⟩]
  | j :: js => ⟨Rect.unit (s := S256x128) ![0, 0] S256x128.size inb_S256x128_S256x128_0_0, shapeCast S256x128
      (maximumf (a13.view.readCov (Val := Elt F) (mxs js) (Rect.unit (s := S256x128) ![0, 0] S256x128.size inb_S256x128_S256x128_0_0).toLoadRect)
        (laneMax (absf (actVal a3 h3 a4 h4 a5 h5 C R x2 x3 x4 j)))) shapeCasts_S256x128_S256x128⟩ :: mxs js

def gscale (i : Fin 8) : FVec F S32x1 .f32 :=
  rowScale (shapeCast S32x1 (multiReduction .maximumf [1] S32 (a13.view.readCov (Val := Elt F) (mxs a3 h3 a4 h4 a5 h5 a13 C R x2 x3 x4 [9, 8, 7, 6, 5, 4, 3, 2, 1, 0])
    (Rect.unit (s := S256x128) ![32 * i.val, 0] S32x128.size (rs_inb i)).toLoadRect) 0xFF800000#32 reduces_S32x128_S32 (.inl rfl) rfl) shapeCasts_S32_S32x1)

/-- One block of the activation's codes. -/
def gcPiece (i : Fin 8) : View.Piece (Elt F) S256x5120 .fp8e4m3 :=
  ⟨Rect.unit (s := S256x5120) ![32 * i.val, 0] S32x5120.size (gc_inb i),
    truncf .fp8e4m3 (minimumf (broadcast S32x5120 (Scalar.ofBits .f32 0x43E00000#32)) (maximumf (broadcast S32x5120 (Scalar.ofBits .f32 0xC3E00000#32))
      (mulf (a11.view.readCov (Val := Elt F) (acts a3 h3 a4 h4 a5 h5 C R x2 x3 x4) (Rect.unit (s := S256x5120) ![32 * i.val, 0] S32x5120.size (gc_inb i)).toLoadRect)
        (broadcastTo S32x5120 (divf (broadcast S32x1 (Scalar.ofBits .f32 0x3F800000#32)) (gscale a3 h3 a4 h4 a5 h5 a13 C R x2 x3 x4 i)) broadcasts_S32x1_S32x5120)))) bitsLt_fp8e4m3_f32⟩

def gcs : List (View.Piece (Elt F) S256x5120 .fp8e4m3) := [7, 6, 5, 4, 3, 2, 1, 0].map fun i => gcPiece a3 h3 a4 h4 a5 h5 a11 a13 C R x2 x3 x4 i

def gss (L : List (View.Piece (Elt F) S256x128 .f32)) : List (View.Piece (Elt F) S256x128 .f32) :=
  [7, 6, 5, 4, 3, 2, 1, 0].map (fun i => rsPiece i (gscale a3 h3 a4 h4 a5 h5 a13 C R x2 x3 x4 i)) ++ L

end

/-! ## The run's stores are the loops' -/

section
variable (c : Dev nD) (i : grid0.Coords) (a1 : Memref sig .tc .vmem S1024x1280 .bf16) (h1 : a1.IsWhole) (a2 : Memref sig .tc .vmem S1x1280 .f32) (h2 : a2.IsWhole) (a3 : Memref sig .tc .vmem S5120x5120 .fp8e4m3) (h3 : a3.IsWhole) (a4 : Memref sig .tc .vmem S1x5120 .f32) (h4 : a4.IsWhole) (a5 : Memref sig .tc .vmem S1x5120 .f32) (h5 : a5.IsWhole) (a6 : Memref sig .tc .vmem S256x5120 .fp8e4m3) (h6 : a6.IsWhole) (a7 : Memref sig .tc .vmem S32x128 .f32) (h7 : a7.IsWhole) (a8 : Memref sig .tc .vmem S256x5120 .fp8e4m3) (h8 : a8.IsWhole) (a9 : Memref sig .tc .vmem S32x128 .f32) (h9 : a9.IsWhole) (a10 : Memref sig .tc .vmem S10x1024x128 .f32) (h10 : a10.IsWhole) (a11 : Memref sig .tc .vmem S256x5120 .f32) (h11 : a11.IsWhole) (a12 : Memref sig .tc .vmem S256x128 .f32) (h12 : a12.IsWhole) (a13 : Memref sig .tc .vmem S256x128 .f32) (h13 : a13.IsWhole)
    (x0 : Vec F S1024x1280 .bf16) (x1 : Vec F S1x1280 .f32) (x2 : Vec F S5120x5120 .fp8e4m3) (x3 : Vec F S1x5120 .f32) (x4 : Vec F S1x5120 .f32)

/-- The codes read back for the product. -/
def codesIn : Vec F S256x5120 .fp8e4m3 :=
  a6.view.readCov (Val := Elt F) (mcs a1 h1 a2 h2 a10 x0 x1) (Rect.unit (s := S256x5120) ![0, 0] S256x5120.size inb_S256x5120_S256x5120_0_0).toLoadRect

/-- The row scales read back for the product. -/
def scalesIn : Vec F S256x128 .f32 :=
  a12.view.readCov (Val := Elt F) (rss a1 h1 a2 h2 a10 x0 x1) (Rect.unit (s := S256x128) ![0, 0] S256x128.size inb_S256x128_S256x128_0_0).toLoadRect

def gcList : List (View.Piece (Elt F) S256x5120 .fp8e4m3) :=
  gcs a3 h3 a4 h4 a5 h5 a11 a13 (codesIn a1 h1 a2 h2 a6 a10 x0 x1) (scalesIn a1 h1 a2 h2 a10 a12 x0 x1) x2 x3 x4

def gsList : List (View.Piece (Elt F) S256x128 .f32) :=
  gss a3 h3 a4 h4 a5 h5 a13 (codesIn a1 h1 a2 h2 a6 a10 x0 x1) (scalesIn a1 h1 a2 h2 a10 a12 x0 x1) x2 x3 x4 (rss a1 h1 a2 h2 a10 x0 x1)

abbrev run := Run.bodyRun (F := F) c i a1 h1 a2 h2 a3 h3 a4 h4 a5 h5 a6 h6 a7 h7 a8 h8 a9 h9 a10 h10 a11 h11 a12 h12 a13 h13 x0 x1 x2 x3 x4

theorem run_codes : (run c i a1 h1 a2 h2 a3 h3 a4 h4 a5 h5 a6 h6 a7 h7 a8 h8 a9 h9 a10 h10 a11 h11 a12 h12 a13 h13 x0 x1 x2 x3 x4).1 = mcs a1 h1 a2 h2 a10 x0 x1 := by sl_kernel_rfl

theorem run_scales : (run c i a1 h1 a2 h2 a3 h3 a4 h4 a5 h5 a6 h6 a7 h7 a8 h8 a9 h9 a10 h10 a11 h11 a12 h12 a13 h13 x0 x1 x2 x3 x4).2.1
    = rowPieces a12 i (rss a1 h1 a2 h2 a10 x0 x1) := by sl_kernel_rfl

theorem run_actCodes : (run c i a1 h1 a2 h2 a3 h3 a4 h4 a5 h5 a6 h6 a7 h7 a8 h8 a9 h9 a10 h10 a11 h11 a12 h12 a13 h13 x0 x1 x2 x3 x4).2.2.1
    = gcList a1 h1 a2 h2 a3 h3 a4 h4 a5 h5 a6 a10 a11 a12 a13 x0 x1 x2 x3 x4 := by sl_kernel_rfl

theorem run_actScales : (run c i a1 h1 a2 h2 a3 h3 a4 h4 a5 h5 a6 h6 a7 h7 a8 h8 a9 h9 a10 h10 a11 h11 a12 h12 a13 h13 x0 x1 x2 x3 x4).2.2.2.1
    = rowPieces a12 i (gsList a1 h1 a2 h2 a3 h3 a4 h4 a5 h5 a6 a10 a12 a13 x0 x1 x2 x3 x4) := by sl_kernel_rfl

end

end Cert.Merge1Ideal.Model

end
-- ==== Proof.MergeSpec.lean ====
/- The mathematics of the first projection, entry by entry, and the equal forms its kernel computes: a division by the
   root mean square as a product by its reciprocal, a row maximum taken before that product, a quantiser's division as a
   product. -/
module

public import Idealize.ShloMosaic.Lib.Pipeline.ValueKit
public import Idealize.ShloMosaic.Lib.IdealHost

@[expose] public section

noncomputable section

namespace Cert.MergeSpec

open Idealize.ShloMosaic

/-! ## The constants -/

abbrev width : EReal := Ideal.ofBits .f32 0x44A00000#32
abbrev eps : EReal := Ideal.ofBits .f32 0x358637BD#32
abbrev top : EReal := Ideal.ofBits .f32 0x43E00000#32
abbrev bot : EReal := Ideal.ofBits .f32 0xC3E00000#32
abbrev half : EReal := Ideal.ofBits .f32 0x3F000000#32
abbrev rootHalf : EReal := Ideal.ofBits .f32 0x3F3504F3#32

theorem width_eq : width = ((1280 : ℝ) : EReal) := by
  simp [Ideal.ofBits, Ideal.ieee, -EReal.coe_mul]
  norm_num

theorem top_eq : top = ((448 : ℝ) : EReal) := by
  simp [Ideal.ofBits, Ideal.ieee, -EReal.coe_mul]
  norm_num

theorem eps_pos : ∃ r : ℝ, 0 < r ∧ eps = (r : EReal) := by
  refine ⟨_, ?_, by simp [Ideal.ofBits, Ideal.ieee]; rfl⟩
  positivity

theorem ninf_eq : Ideal.ofBits .f32 0xFF800000#32 = ⊥ := by
  simp [Ideal.ofBits, Ideal.ieee]

/-! ## The functions -/

/-- A value's magnitude. -/
abbrev mag (x : EReal) : EReal := max x (-x)
/-- The greatest magnitude of a row. -/
def rmax {ι : Type} [Fintype ι] (f : ι → EReal) : EReal := (Finset.univ : Finset ι).fold max 0 fun a => mag (f a)
/-- The root mean square of a feature row. -/
def den (u : Fin 1280 → EReal) : EReal := Ideal.sqrt (Ideal.div (∑ d, u d * u d) width + eps)
/-- A feature row, normalised and weighted. -/
def nrm (u g : Fin 1280 → EReal) (d : Fin 1280) : EReal := Ideal.div (u d) (den u) * g d
/-- The scale of a row of greatest magnitude `a`. -/
def scaleOf (a : EReal) : EReal := if a = 0 then 1 else Ideal.div a top
/-- The code of `x` in a row of scale `s`. -/
def code (x s : EReal) : EReal := min top (max bot (Ideal.div x s))
/-- The activation. -/
def gelu (z : EReal) : EReal := half * z * (1 + Ideal.erf (z * rootHalf))
/-- The four patches of a merged row, side by side. -/
def merged (u : Fin 4 → Fin 1280 → EReal) (g : Fin 1280 → EReal) (j : Fin 5120) : EReal :=
  nrm (u ⟨j.val / 1280, by have := j.2; omega⟩) g ⟨j.val % 1280, Nat.mod_lt _ (by decide)⟩

theorem rmax_le {ι : Type} [Fintype ι] (f : ι → EReal) (c : EReal) : rmax f ≤ c ↔ 0 ≤ c ∧ ∀ a, mag (f a) ≤ c := by
  simp [rmax, Finset.fold_max_le]

theorem mag_nonneg (x : EReal) : 0 ≤ mag x := by
  rcases le_total 0 x with h | h
  · exact le_max_of_le_left h
  · exact le_max_of_le_right (by simpa using EReal.neg_le_neg_iff.2 h)

theorem rmax_nonneg {ι : Type} [Fintype ι] (f : ι → EReal) : 0 ≤ rmax f := ((rmax_le f _).1 le_rfl).1

/-- A maximum from below every value is the maximum from zero, over a row that has an entry. -/
theorem fold_bot {ι : Type} [Fintype ι] [Nonempty ι] (f : ι → EReal) :
    (Finset.univ : Finset ι).fold max ⊥ (fun a => mag (f a)) = rmax f := by
  refine eq_of_forall_ge_iff fun c => ?_
  rw [rmax_le, Finset.fold_max_le]
  obtain ⟨a⟩ := ‹Nonempty ι›
  exact ⟨fun h => ⟨(mag_nonneg _).trans (h.2 a (Finset.mem_univ a)), fun b => h.2 b (Finset.mem_univ b)⟩, fun h => ⟨bot_le, fun b _ => h.2 b⟩⟩

/-! ## The reciprocal of the root mean square -/

theorem mul_self_nonneg' (x : EReal) : 0 ≤ x * x := by
  rcases le_total 0 x with h | h
  · exact mul_nonneg h h
  · exact EReal.mul_nonneg_iff.2 (.inr ⟨h, h⟩)

theorem den_pos (u : Fin 1280 → EReal) : 0 < den u := by
  obtain ⟨r, hr, he⟩ := eps_pos
  have hs : 0 ≤ ∑ d, u d * u d := Finset.sum_nonneg fun d _ => mul_self_nonneg' _
  have hw : width ≠ 0 := by rw [width_eq]; exact_mod_cast (by norm_num : (1280 : ℝ) ≠ 0)
  have hd : 0 ≤ Ideal.div (∑ d, u d * u d) width := by
    rw [Ideal.div, if_neg hw]
    refine mul_nonneg hs (EReal.inv_nonneg_of_nonneg ?_)
    rw [width_eq]; exact_mod_cast (by norm_num : (0 : ℝ) ≤ 1280)
  have ha : 0 < Ideal.div (∑ d, u d * u d) width + eps := by
    rw [he]
    exact lt_of_lt_of_le (by exact_mod_cast hr) (le_add_of_nonneg_left hd)
  unfold den
  generalize Ideal.div (∑ d, u d * u d) width + eps = t at ha
  induction t with
  | bot => simp at ha
  | top => exact EReal.zero_lt_top
  | coe t =>
    have ht : 0 < t := by exact_mod_cast ha
    show 0 < if t < 0 then (⊥ : EReal) else (Real.sqrt t : EReal)
    rw [if_neg (not_lt.2 ht.le)]
    exact_mod_cast Real.sqrt_pos.2 ht

/-- The reciprocal of a positive number is a nonnegative real. -/
theorem inv_real {q : EReal} (hq : 0 < q) : ∃ r : ℝ, 0 ≤ r ∧ q⁻¹ = (r : EReal) := by
  induction q with
  | bot => simp at hq
  | top => exact ⟨0, le_rfl, by simp⟩
  | coe t =>
    have ht : 0 < t := by exact_mod_cast hq
    exact ⟨t⁻¹, inv_nonneg.2 ht.le, (EReal.coe_inv t).symm⟩

theorem div_pos_eq {q : EReal} (hq : 0 < q) (x : EReal) : Ideal.div x q = x * q⁻¹ := by
  rw [Ideal.div, if_neg hq.ne']

theorem one_div_eq {q : EReal} (hq : 0 < q) : Ideal.div 1 q = q⁻¹ := by rw [div_pos_eq hq, one_mul]

/-- Weighted first, then divided. -/
theorem nrm_eq (u g : Fin 1280 → EReal) (d : Fin 1280) : u d * g d * Ideal.div 1 (den u) = nrm u g d := by
  rw [nrm, one_div_eq (den_pos u), div_pos_eq (den_pos u), mul_right_comm]

theorem mag_mul_real (x : EReal) {r : ℝ} (hr : 0 ≤ r) : mag x * (r : EReal) = mag (x * (r : EReal)) := by
  have hm : Monotone fun y : EReal => y * (r : EReal) := fun a b h => mul_le_mul_of_nonneg_right h (by exact_mod_cast hr)
  show (max x (-x)) * (r : EReal) = max (x * r) (-(x * r))
  rw [← EReal.neg_mul]
  exact hm.map_max

/-- The greatest magnitude of a row, taken before the product by the reciprocal. -/
theorem rmax_nrm (u g : Fin 1280 → EReal) : rmax (fun d => u d * g d) * Ideal.div 1 (den u) = rmax (nrm u g) := by
  obtain ⟨r, hr, he⟩ := inv_real (den_pos u)
  have hm : Monotone fun y : EReal => y * (r : EReal) := fun a b h => mul_le_mul_of_nonneg_right h (by exact_mod_cast hr)
  have hf : ∀ d, nrm u g d = u d * g d * (r : EReal) := fun d => by rw [← nrm_eq, one_div_eq (den_pos u), he]
  rw [one_div_eq (den_pos u), he]
  unfold rmax
  simp only [hf, ← mag_mul_real _ hr]
  have h := Finset.fold_hom (op := max) (op' := max) (s := (Finset.univ : Finset (Fin 1280))) (b := (0 : EReal))
    (f := fun d => mag (u d * g d)) (m := fun y : EReal => y * (r : EReal)) (fun x y => hm.map_max)
  simpa using h.symm

/-! ## The quantiser -/

theorem scale_pos {a : EReal} (ha : 0 ≤ a) : 0 < scaleOf a := by
  unfold scaleOf
  split
  · exact zero_lt_one
  · rename_i h
    have ha' : 0 < a := lt_of_le_of_ne ha (Ne.symm h)
    have ht : (0 : EReal) < top := by rw [top_eq]; exact_mod_cast (by norm_num : (0 : ℝ) < 448)
    rw [div_pos_eq ht, top_eq, ← EReal.coe_inv]
    exact EReal.mul_pos ha' (by exact_mod_cast (by norm_num : (0 : ℝ) < 448⁻¹))

/-- A quotient by a scale, as the kernel computes it. -/
theorem code_eq (x : EReal) {s : EReal} (hs : 0 < s) : min top (max bot (x * Ideal.div 1 s)) = code x s := by
  rw [code, one_div_eq hs, div_pos_eq hs]

/-- A merged row's greatest magnitude is the greatest of its patches'. -/
theorem rmax_merged (u : Fin 4 → Fin 1280 → EReal) (g : Fin 1280 → EReal) :
    max (max (max (rmax (nrm (u 0) g)) (rmax (nrm (u 1) g))) (rmax (nrm (u 2) g))) (rmax (nrm (u 3) g)) = rmax (merged u g) := by
  refine eq_of_forall_ge_iff fun c => ?_
  rw [max_le_iff, max_le_iff, max_le_iff, rmax_le, rmax_le, rmax_le, rmax_le, rmax_le]
  constructor
  · rintro ⟨⟨⟨h0, h1⟩, h2⟩, h3⟩
    refine ⟨h0.1, fun j => ?_⟩
    have hp : ∀ p : Fin 4, ∀ d, mag (nrm (u p) g d) ≤ c := fun p => by
      fin_cases p
      · exact h0.2
      · exact h1.2
      · exact h2.2
      · exact h3.2
    exact hp _ _
  · rintro ⟨h0, h⟩
    have hp : ∀ (p : Fin 4) (d : Fin 1280), mag (nrm (u p) g d) ≤ c := fun p d => by
      have := h ⟨1280 * p.val + d.val, by have := p.2; have := d.2; omega⟩
      rwa [merged, show (⟨(1280 * p.val + d.val) / 1280, _⟩ : Fin 4) = p from Fin.ext (by show (1280 * p.val + d.val) / 1280 = p.val; have := d.2; omega),
        show (⟨(1280 * p.val + d.val) % 1280, _⟩ : Fin 1280) = d from Fin.ext (by show (1280 * p.val + d.val) % 1280 = d.val; have := d.2; omega)] at this
    exact ⟨⟨⟨⟨h0, hp 0⟩, ⟨h0, hp 1⟩⟩, ⟨h0, hp 2⟩⟩, ⟨h0, hp 3⟩⟩

/-! ## Chunked sums and maxima -/

/-- A row's sum, lane by lane over ten chunks. -/
theorem sum_chunks (f : Fin 1280 → EReal) :
    ∑ l : Fin 128, ∑ k : Fin 10, f ⟨128 * k.val + l.val, by have := k.2; have := l.2; omega⟩ = ∑ d, f d := by
  rw [Finset.sum_comm, ← Finset.sum_product']
  refine Finset.sum_bij' (fun x _ => (⟨128 * x.1.val + x.2.val, by have := x.1.2; have := x.2.2; omega⟩ : Fin 1280))
    (fun d _ => ((⟨d.val / 128, by have := d.2; omega⟩ : Fin 10), (⟨d.val % 128, Nat.mod_lt _ (by decide)⟩ : Fin 128)))
    (fun _ _ => Finset.mem_univ _) (fun _ _ => Finset.mem_univ _) (fun x _ => ?_) (fun d _ => ?_) (fun _ _ => rfl)
  · refine Prod.ext (Fin.ext ?_) (Fin.ext ?_)
    · show (128 * x.1.val + x.2.val) / 128 = x.1.val; have := x.2.2; omega
    · show (128 * x.1.val + x.2.val) % 128 = x.2.val; have := x.2.2; omega
  · exact Fin.ext (by show 128 * (d.val / 128) + d.val % 128 = d.val; omega)

theorem forall_chunks (f : Fin 1280 → EReal) (c : EReal) :
    (∀ (l : Fin 128) (k : Fin 10), mag (f ⟨128 * k.val + l.val, by have := k.2; have := l.2; omega⟩) ≤ c) ↔ ∀ d, mag (f d) ≤ c := by
  refine ⟨fun h d => ?_, fun h l k => h _⟩
  have := h ⟨d.val % 128, Nat.mod_lt _ (by decide)⟩ ⟨d.val / 128, by have := d.2; omega⟩
  rwa [show (⟨128 * (d.val / 128) + d.val % 128, _⟩ : Fin 1280) = d from Fin.ext (by show 128 * (d.val / 128) + d.val % 128 = d.val; omega)] at this

/-! ## The results, as functions of the arguments -/

/-- Merged row `R`: four consecutive feature rows, normalised and weighted, side by side. -/
def mrow (x : Fin 16384 → Fin 1280 → EReal) (g : Fin 1280 → EReal) (R : Fin 4096) : Fin 5120 → EReal :=
  merged (fun p d => x ⟨4 * R.val + p.val, by have := R.2; have := p.2; omega⟩ d) g
/-- The scale of merged row `R`. -/
def mscale (x : Fin 16384 → Fin 1280 → EReal) (g : Fin 1280 → EReal) (R : Fin 4096) : EReal := scaleOf (rmax (mrow x g R))
/-- The codes of merged row `R`. -/
def mcode (x : Fin 16384 → Fin 1280 → EReal) (g : Fin 1280 → EReal) (R : Fin 4096) (j : Fin 5120) : EReal := code (mrow x g R j) (mscale x g R)
/-- The activations of merged row `R`. -/
def act (x : Fin 16384 → Fin 1280 → EReal) (g : Fin 1280 → EReal) (w : Fin 5120 → Fin 5120 → EReal) (s b : Fin 5120 → EReal) (R : Fin 4096)
    (n : Fin 5120) : EReal := gelu ((∑ k, mcode x g R k * w k n) * mscale x g R * s n + b n)
/-- The scale of the activations of merged row `R`. -/
def gscale (x : Fin 16384 → Fin 1280 → EReal) (g : Fin 1280 → EReal) (w : Fin 5120 → Fin 5120 → EReal) (s b : Fin 5120 → EReal)
    (R : Fin 4096) : EReal := scaleOf (rmax (act x g w s b R))
/-- The codes of the activations of merged row `R`. -/
def gcode (x : Fin 16384 → Fin 1280 → EReal) (g : Fin 1280 → EReal) (w : Fin 5120 → Fin 5120 → EReal) (s b : Fin 5120 → EReal)
    (R : Fin 4096) (n : Fin 5120) : EReal := code (act x g w s b R n) (gscale x g w s b R)

end Cert.MergeSpec

end
-- ==== Proof.MergeValue.lean ====
module

public import proofs.«01_k».proof.Proof.MergeModel
public import proofs.«01_k».proof.Proof.MergeSpec
public import Idealize.ShloMosaic.Lib.Pipeline.ValueKit
public import Idealize.ShloMosaic.Lib.Pipeline.ReadBack

@[expose] public section

set_option maxRecDepth 16384

noncomputable section

namespace Cert.Merge1Ideal.Model

open Cert.Merge1Ideal Cert.Merge1Ideal.Gen
open Idealize.ShloMosaic Idealize.ShloMosaic.TcCoe Idealize.SL.Sem
open Cert.MergeSpec hiding gelu

theorem mem10 : ∀ k : Fin 10, k ∈ ([9, 8, 7, 6, 5, 4, 3, 2, 1, 0] : List (Fin 10)) := by decide
theorem sum10 (f : Fin 10 → EReal) : (([9, 8, 7, 6, 5, 4, 3, 2, 1, 0] : List (Fin 10)).map f).sum = ∑ k, f k := by
  rw [show (([9, 8, 7, 6, 5, 4, 3, 2, 1, 0] : List (Fin 10)).map f) = ((List.finRange 10).map f).reverse from rfl, List.sum_reverse, Fin.sum_univ_def]
theorem mem8 : ∀ k : Fin 8, k ∈ ([7, 6, 5, 4, 3, 2, 1, 0] : List (Fin 8)) := by decide
theorem mem4 : ∀ k : Fin 4, k ∈ ([3, 2, 1, 0] : List (Fin 4)) := by decide

section
variable (a1 : Memref sig .tc .vmem S1024x1280 .bf16) (h1 : a1.IsWhole) (a2 : Memref sig .tc .vmem S1x1280 .f32) (h2 : a2.IsWhole)
  (a10 : Memref sig .tc .vmem S10x1024x128 .f32) (x0 : Vec Ideal S1024x1280 .bf16) (x1 : Vec Ideal S1x1280 .f32)

/-- A load of a whole buffer's block is the block of its contents. -/
theorem load_whole {S : Shape} {e : EltTy} (a : Memref sig .tc .vmem S e) (h : a.IsWhole) (x : Vec Ideal S e) (B : LoadRect S) :
    a.view.readAt (Elt Ideal) B (h.unread x) = fun j => x (B.idx j) := by
  funext j
  rw [View.readAt_apply, h.read_unread]

def pairG (y : S10x1024x128.Idx) : EReal :=
  x0 (ix2 (⟨(y 1 : ℕ), by have : (y 1 : ℕ) < 1024 := (y 1).isLt; omega⟩ : Fin 1024) (⟨128 * (y 0 : ℕ) + (y 2 : ℕ), by have : (y 0 : ℕ) < 10 := (y 0).isLt; have : (y 2 : ℕ) < 128 := (y 2).isLt; omega⟩ : Fin 1280))

theorem pairPiece_at (k : Fin 10) (x : S1x1024x128.Idx) : (pairPiece (F := Ideal) a1 h1 x0 k).2 x
    = x0 (ix2 (⟨(x 1 : ℕ), (x 1).isLt⟩ : Fin 1024) (⟨128 * k.val + (x 2 : ℕ), by have := k.2; have : (x 2 : ℕ) < 128 := (x 2).isLt; omega⟩ : Fin 1280)) := by
  have e : (pairPiece (F := Ideal) a1 h1 x0 k).2 = shapeCast S1x1024x128 (extf (F := Ideal) .f32 (fun j => x0 ((Rect.unit (s := S1024x1280) ![0, 128 * k.val] S1024x128.size (vis_inb k)).idx j)) bitsLt_bf16_f32) shapeCasts_S1024x128_S1x1024x128 := by
    unfold pairPiece
    rw [load_whole]
  rw [e]
  refine (shapeCast_addUnit_apply (n := 2) ![1024, 128] (extf (F := Ideal) .f32 (fun j => x0 ((Rect.unit (s := S1024x1280) ![0, 128 * k.val] S1024x128.size (vis_inb k)).idx j)) bitsLt_bf16_f32) shapeCasts_S1024x128_S1x1024x128 x).trans ?_
  refine congrArg x0 (funext fun a => Fin.ext ?_)
  fin_cases a
  · exact (Rect.idx_unit_val _ _ _ _ 0).trans (Nat.zero_add _)
  · exact Rect.idx_unit_val _ _ _ _ 1

theorem canon_pairs (y : S10x1024x128.Idx) : View.canon (pairs (F := Ideal) a1 h1 x0) y = pairG x0 y := by
  refine View.canon_apply_of_pieces (pairG x0) _ (fun p hp x => ?_) y ⟨pairPiece a1 h1 x0 (y 0), List.mem_map.2 ⟨_, mem10 _, rfl⟩, ?_⟩
  · obtain ⟨k, -, rfl⟩ := List.mem_map.1 hp
    refine (pairPiece_at a1 h1 x0 k x).trans (congrArg x0 ?_)
    have e := ValueKit.rect_emb_unit_val (s := S10x1024x128) ![k.val, 0, 0] S1x1024x128.size (pair_inb k) x
    have e0 : ((pairPiece (F := Ideal) a1 h1 x0 k).1.emb x 0 : ℕ) = k.val := (e 0).trans (by have h : ((x 0 : ℕ)) < 1 := (x 0).isLt; show k.val + (x 0 : ℕ) = _; omega)
    have e1 : ((pairPiece (F := Ideal) a1 h1 x0 k).1.emb x 1 : ℕ) = (x 1 : ℕ) := (e 1).trans (Nat.zero_add _)
    have e2 : ((pairPiece (F := Ideal) a1 h1 x0 k).1.emb x 2 : ℕ) = (x 2 : ℕ) := (e 2).trans (Nat.zero_add _)
    funext a
    refine Fin.ext ?_
    fin_cases a
    · exact e1.symm
    · show 128 * k.val + (x 2 : ℕ) = 128 * ((pairPiece (F := Ideal) a1 h1 x0 k).1.emb x 0 : ℕ) + ((pairPiece (F := Ideal) a1 h1 x0 k).1.emb x 2 : ℕ)
      rw [e0, e2]
  · refine (Rect.mem_set_unit (inb := pair_inb (y 0))).2 fun a => ?_
    fin_cases a
    · exact ⟨le_refl _, Nat.lt_succ_self _⟩
    · exact ⟨Nat.zero_le _, by show (y 1 : ℕ) < 0 + 1024; have h : (y 1 : ℕ) < 1024 := (y 1).isLt; omega⟩
    · exact ⟨Nat.zero_le _, by show (y 2 : ℕ) < 0 + 128; have h : (y 2 : ℕ) < 128 := (y 2).isLt; omega⟩

theorem patch_at (i : Fin 8) (p : Fin 4) (k : Fin 10) (x : S32x128.Idx) :
    patch (F := Ideal) a1 h1 a10 x0 i p k x
      = x0 (ix2 (⟨4 * (32 * i.val + (x 0 : ℕ)) + p.val, by have := i.2; have := p.2; have : (x 0 : ℕ) < 32 := (x 0).isLt; omega⟩ : Fin 1024)
          (⟨128 * k.val + (x 1 : ℕ), by have := k.2; have : (x 1 : ℕ) < 128 := (x 1).isLt; omega⟩ : Fin 1280)) := by
  refine (shapeCast_dropUnit_apply ![32, 128] _ _ x).trans ?_
  rw [View.readCov_eq_canon']
  refine (canon_pairs a1 h1 x0 _).trans (congrArg x0 (funext fun a => Fin.ext ?_))
  fin_cases a
  · show 128 * i.val + p.val + 4 * (x 0 : ℕ) = 4 * (32 * i.val + (x 0 : ℕ)) + p.val
    omega
  · show 128 * (k.val + 1 * 0) + (0 + 1 * (x 1 : ℕ)) = 128 * k.val + (x 1 : ℕ)
    omega

theorem gain_at (k : Fin 10) (x : S32x128.Idx) :
    gain (F := Ideal) a2 h2 x1 k x
      = x1 (ix2 0 (⟨128 * k.val + (x 1 : ℕ), by have := k.2; have : (x 1 : ℕ) < 128 := (x 1).isLt; omega⟩ : Fin 1280)) := by
  unfold gain
  rw [load_whole]
  pointwise []

theorem vg_at (i : Fin 8) (p : Fin 4) (k : Fin 10) (x : S32x128.Idx) :
    vg (F := Ideal) a1 h1 a2 h2 a10 x0 x1 i p k x
      = x0 (ix2 (⟨4 * (32 * i.val + (x 0 : ℕ)) + p.val, by have := i.2; have := p.2; have : (x 0 : ℕ) < 32 := (x 0).isLt; omega⟩ : Fin 1024)
          (⟨128 * k.val + (x 1 : ℕ), by have := k.2; have : (x 1 : ℕ) < 128 := (x 1).isLt; omega⟩ : Fin 1280))
        * x1 (ix2 0 (⟨128 * k.val + (x 1 : ℕ), by have := k.2; have : (x 1 : ℕ) < 128 := (x 1).isLt; omega⟩ : Fin 1280)) :=
  congrArg₂ (fun a b : EReal => a * b) (patch_at a1 h1 a10 x0 i p k x) (gain_at a2 h2 x1 k x)

theorem ssAcc_at (i : Fin 8) (p : Fin 4) (L : List (Fin 10)) (x : S32x128.Idx) :
    ssAcc (F := Ideal) a1 h1 a10 x0 i p L x
      = (L.map fun k => patch (F := Ideal) a1 h1 a10 x0 i p k x * patch (F := Ideal) a1 h1 a10 x0 i p k x).sum := by
  induction L with
  | nil => pointwise [ssAcc]; rfl
  | cons k ks ih => rw [List.map_cons, List.sum_cons, ← ih, add_comm]; rfl

theorem mxAcc_le (i : Fin 8) (p : Fin 4) (L : List (Fin 10)) (x : S32x128.Idx) (c : EReal) :
    mxAcc (F := Ideal) a1 h1 a2 h2 a10 x0 x1 i p L x ≤ c
      ↔ 0 ≤ c ∧ ∀ k ∈ L, FloatOps.absf (F := Ideal) (φ := .f32) (vg (F := Ideal) a1 h1 a2 h2 a10 x0 x1 i p k x) ≤ c := by
  induction L with
  | nil => pointwise [mxAcc]; exact ⟨fun h => ⟨h, fun k hk => (List.not_mem_nil hk).elim⟩, fun h => h.1⟩
  | cons k ks ih =>
    rw [List.forall_mem_cons, and_left_comm, ← ih, and_comm]
    exact max_le_iff

/-! ## A row's root mean square, maximum and scale -/

/-- The four patches of merged row `r`. -/
def rowOf (x0 : Vec Ideal S1024x1280 .bf16) (r : Fin 256) (p : Fin 4) (d : Fin 1280) : EReal :=
  x0 (ix2 (⟨4 * r.val + p.val, by have := r.2; have := p.2; omega⟩ : Fin 1024) d)

/-- The norm's gain. -/
def gainOf (x1 : Vec Ideal S1x1280 .f32) (d : Fin 1280) : EReal := x1 (ix2 0 d)

/-- Row `x` of row block `i`. -/
def rowAt (i : Fin 8) (x : Fin 32) : Fin 256 := ⟨32 * i.val + x.val, by have := i.2; have := x.2; omega⟩

theorem inv_at (i : Fin 8) (p : Fin 4) (x : S32x1.Idx) :
    inv (F := Ideal) a1 h1 a10 x0 i p x = Ideal.div 1 (den (rowOf x0 (rowAt i (x 0)) p)) := by
  have hs : ∑ l : Fin 128, ssAcc (F := Ideal) a1 h1 a10 x0 i p [9, 8, 7, 6, 5, 4, 3, 2, 1, 0] (ix2 (x 0) l)
      = ∑ d, rowOf x0 (rowAt i (x 0)) p d * rowOf x0 (rowAt i (x 0)) p d := by
    rw [← sum_chunks fun d => rowOf x0 (rowAt i (x 0)) p d * rowOf x0 (rowAt i (x 0)) p d]
    refine Finset.sum_congr rfl fun l _ => ?_
    rw [ssAcc_at, sum10]
    refine Finset.sum_congr rfl fun k _ => ?_
    rw [patch_at]
    rfl
  unfold inv
  pointwise []
  rw [hs]
  rfl

theorem mx_at (i : Fin 8) (p : Fin 4) (x : Fin 32) :
    (Finset.univ : Finset (Fin 128)).fold max ⊥ (fun l => mxAcc (F := Ideal) a1 h1 a2 h2 a10 x0 x1 i p [9, 8, 7, 6, 5, 4, 3, 2, 1, 0] (ix2 x l))
      = rmax fun d => rowOf x0 (rowAt i x) p d * gainOf x1 d := by
  refine eq_of_forall_ge_iff fun c => ?_
  rw [rmax_le, Finset.fold_max_le, ← forall_chunks fun d => rowOf x0 (rowAt i x) p d * gainOf x1 d]
  simp only [mxAcc_le, mem10, Finset.mem_univ, true_imp_iff, bot_le, true_and, vg_at]
  exact ⟨fun h => ⟨(h 0).1, fun l k => (h l).2 k⟩, fun h l => ⟨h.1, fun k => h.2 l k⟩⟩

theorem ap_at (i : Fin 8) (p : Fin 4) (x : S32x1.Idx) :
    ap (F := Ideal) a1 h1 a2 h2 a10 x0 x1 i p x = rmax (nrm (rowOf x0 (rowAt i (x 0)) p) (gainOf x1)) := by
  unfold ap
  pointwise []
  rw [ninf_eq]
  refine (congrArg₂ (fun a b : EReal => a * b) (mx_at a1 h1 a2 h2 a10 x0 x1 i p (x 0)) (inv_at a1 h1 a10 x0 i p x)).trans ?_
  exact rmax_nrm _ _

/-- The scale of merged row `r`. -/
def scaleAt (x0 : Vec Ideal S1024x1280 .bf16) (x1 : Vec Ideal S1x1280 .f32) (r : Fin 256) : EReal := scaleOf (rmax (merged (rowOf x0 r) (gainOf x1)))

theorem scale_at (i : Fin 8) (x : S32x1.Idx) :
    scale (F := Ideal) a1 h1 a2 h2 a10 x0 x1 i x = scaleAt x0 x1 (rowAt i (x 0)) := by
  unfold scale
  pointwise [rowScale]
  rw [ap_at, ap_at, ap_at, ap_at, rmax_merged]
  rfl

/-- The codes of the merged rows. -/
def codesOf (x0 : Vec Ideal S1024x1280 .bf16) (x1 : Vec Ideal S1x1280 .f32) (y : S256x5120.Idx) : EReal :=
  code (merged (rowOf x0 (y 0)) (gainOf x1) (y 1)) (scaleAt x0 x1 (y 0))

theorem merged_at (u : Fin 4 → Fin 1280 → EReal) (g : Fin 1280 → EReal) (p : Fin 4) (d : Fin 1280) (j : Fin 5120)
    (hj : j.val = 1280 * p.val + d.val) : merged u g j = nrm (u p) g d := by
  have hp : (⟨j.val / 1280, by have := j.2; omega⟩ : Fin 4) = p := Fin.ext (by show j.val / 1280 = p.val; have := d.2; omega)
  have hd : (⟨j.val % 1280, Nat.mod_lt _ (by decide)⟩ : Fin 1280) = d := Fin.ext (by show j.val % 1280 = d.val; have := d.2; omega)
  rw [merged, hp, hd]

theorem mcVal_at (i : Fin 8) (p : Fin 4) (k : Fin 10) (x : S32x128.Idx) :
    mcVal (F := Ideal) a1 h1 a2 h2 a10 x0 x1 i p k x
      = code (nrm (rowOf x0 (rowAt i (x 0)) p) (gainOf x1) ⟨128 * k.val + (x 1 : ℕ), by have := k.2; have : (x 1 : ℕ) < 128 := (x 1).isLt; omega⟩)
          (scaleAt x0 x1 (rowAt i (x 0))) := by
  unfold mcVal
  pointwise [rscale]
  rw [vg_at, inv_at, scale_at, ← mul_assoc]
  refine Eq.trans ?_ (code_eq _ (scale_pos (rmax_nonneg _)))
  rw [← nrm_eq]
  rfl

theorem cover_mcs (y : S256x5120.Idx) : ∃ q ∈ mcs (F := Ideal) a1 h1 a2 h2 a10 x0 x1, y ∈ q.1.set := by
  have h0 : (y 0 : ℕ) < 256 := (y 0).isLt
  have h1' : (y 1 : ℕ) < 5120 := (y 1).isLt
  refine ⟨mcPiece a1 h1 a2 h2 a10 x0 x1 ⟨(y 0 : ℕ) / 32, by omega⟩ ⟨(y 1 : ℕ) / 1280, by omega⟩ ⟨(y 1 : ℕ) % 1280 / 128, by omega⟩, ?_, ?_⟩
  · simp only [mcs, List.mem_flatMap, List.mem_map, mem8, mem4, mem10, true_and]
    exact ⟨_, _, _, rfl⟩
  · refine (Rect.mem_set_unit (inb := mc_inb _ _ _)).2 fun a => ?_
    fin_cases a
    · show 32 * ((y 0 : ℕ) / 32) ≤ (y 0 : ℕ) ∧ (y 0 : ℕ) < 32 * ((y 0 : ℕ) / 32) + 32
      omega
    · show 1280 * ((y 1 : ℕ) / 1280) + 128 * ((y 1 : ℕ) % 1280 / 128) ≤ (y 1 : ℕ) ∧ (y 1 : ℕ) < 1280 * ((y 1 : ℕ) / 1280) + 128 * ((y 1 : ℕ) % 1280 / 128) + 128
      omega

theorem canon_mcs (y : S256x5120.Idx) : View.canon (mcs (F := Ideal) a1 h1 a2 h2 a10 x0 x1) y = codesOf x0 x1 y := by
  refine View.canon_apply_of_pieces (codesOf x0 x1) _ (fun q hq x => ?_) y (cover_mcs a1 h1 a2 h2 a10 x0 x1 y)
  simp only [mcs, List.mem_flatMap, List.mem_map, mem8, mem4, mem10, true_and] at hq
  obtain ⟨i, p, k, rfl⟩ := hq
  have e := ValueKit.rect_emb_unit_val (s := S256x5120) ![32 * i.val, 1280 * p.val + 128 * k.val] S32x128.size (mc_inb i p k) x
  refine (mcVal_at a1 h1 a2 h2 a10 x0 x1 i p k x).trans ?_
  have e0 : (mcPiece (F := Ideal) a1 h1 a2 h2 a10 x0 x1 i p k).1.emb x 0 = rowAt i (x 0) := Fin.ext (e 0)
  have hm : merged (rowOf x0 (rowAt i (x 0))) (gainOf x1) ((mcPiece (F := Ideal) a1 h1 a2 h2 a10 x0 x1 i p k).1.emb x 1)
      = nrm (rowOf x0 (rowAt i (x 0)) p) (gainOf x1) ⟨128 * k.val + (x 1 : ℕ), by have := k.2; have : (x 1 : ℕ) < 128 := (x 1).isLt; omega⟩ :=
    merged_at _ _ p _ _ ((e 1).trans (Nat.add_assoc _ _ _))
  rw [codesOf, e0]
  exact congrArg (fun v => code v (scaleAt x0 x1 (rowAt i (x 0)))) hm.symm

end

/-! ## Scales stored over the lanes of their row block -/

theorem rsPiece_at (i : Fin 8) (v : FVec Ideal S32x1 .f32) (x : S32x128.Idx) : (rsPiece (F := Ideal) i v).2 x = v (ix2 (x 0) 0) := by
  unfold rsPiece
  pointwise []

/-- The row blocks' scales, over the lanes, in a buffer of anything. -/
theorem canon_rows (S : Fin 256 → EReal) (v : Fin 8 → FVec Ideal S32x1 .f32) (hv : ∀ i x, v i x = S (rowAt i (x 0)))
    (L : List (View.Piece (Elt Ideal) S256x128 .f32)) (y : S256x128.Idx) :
    View.canon ([7, 6, 5, 4, 3, 2, 1, 0].map (fun i => rsPiece (F := Ideal) i (v i)) ++ L) y = S (y 0) := by
  have h0 : (y 0 : ℕ) < 256 := (y 0).isLt
  have h1' : (y 1 : ℕ) < 128 := (y 1).isLt
  have main := View.canon_append_of_pieces (fun y : S256x128.Idx => S (y 0)) L ([7, 6, 5, 4, 3, 2, 1, 0].map (fun i => rsPiece (F := Ideal) i (v i)))
    (fun q hq x => by
      obtain ⟨i, -, rfl⟩ := List.mem_map.1 hq
      have e := ValueKit.rect_emb_unit_val (s := S256x128) ![32 * i.val, 0] S32x128.size (rs_inb i) x
      have e0 : (rsPiece (F := Ideal) i (v i)).1.emb x 0 = rowAt i (x 0) := Fin.ext (e 0)
      rw [e0]
      exact (rsPiece_at i (v i) x).trans (hv i _))
    y ⟨rsPiece ⟨(y 0 : ℕ) / 32, by omega⟩ (v _), List.mem_map.2 ⟨_, mem8 _, rfl⟩, ?_⟩
  · exact main
  · refine (Rect.mem_set_unit (inb := rs_inb _)).2 fun a => ?_
    fin_cases a
    · show 32 * ((y 0 : ℕ) / 32) ≤ (y 0 : ℕ) ∧ (y 0 : ℕ) < 32 * ((y 0 : ℕ) / 32) + 32
      omega
    · show 0 ≤ (y 1 : ℕ) ∧ (y 1 : ℕ) < 0 + 128
      omega

theorem eye_sum (f : Fin 128 → EReal) (i : Fin 128) :
    ∑ k : Fin 128, Scalar.select (IntOp.cmpi .eq (BitVec.ofNat 32 (k : ℕ)) (BitVec.ofNat 32 (i : ℕ))) (f k) 0 = f i := by
  have hne : ∀ k : Fin 128, k ≠ i → ¬(BitVec.ofNat 32 (k : ℕ) = BitVec.ofNat 32 (i : ℕ)) := by
    intro k hk h
    have h2 := congrArg BitVec.toNat h
    simp only [BitVec.toNat_ofNat] at h2
    have := i.isLt; have := k.isLt
    exact hk (Fin.ext (by omega))
  rw [Finset.sum_eq_single i (fun k _ hk => by rw [show IntOp.cmpi .eq (BitVec.ofNat 32 (k : ℕ)) (BitVec.ofNat 32 (i : ℕ)) = 0#1 by simp only [IntOp.cmpi, beq_eq_false_iff_ne.mpr (hne k hk)]; rfl]; rfl) (fun h => absurd (Finset.mem_univ i) h)]
  simp [Scalar.select, IntOp.cmpi]

theorem diagRow_at (v : FVec Ideal S128x128 .f32) (x : S1x128.Idx) : diagRow (F := Ideal) v x = v (ix2 (x 1) (x 1)) := by
  pointwise [diagRow]
  exact eye_sum (fun k => v (ix2 k (x 1))) (x 1)

/-! ## The second stage -/

section
variable (a3 : Memref sig .tc .vmem S5120x5120 .fp8e4m3) (h3 : a3.IsWhole) (a4 : Memref sig .tc .vmem S1x5120 .f32) (h4 : a4.IsWhole)
  (a5 : Memref sig .tc .vmem S1x5120 .f32) (h5 : a5.IsWhole)
  (a11 : Memref sig .tc .vmem S256x5120 .f32) (a13 : Memref sig .tc .vmem S256x128 .f32)
  (C : Vec Ideal S256x5120 .fp8e4m3) (R : Vec Ideal S256x128 .f32) (S : Fin 256 → EReal) (hR : ∀ y, R y = S (y 0))
  (x2 : Vec Ideal S5120x5120 .fp8e4m3) (x3 : Vec Ideal S1x5120 .f32) (x4 : Vec Ideal S1x5120 .f32)

/-- Row `r` of the activations of codes `C` with row scales `S`. -/
def actOf (r : Fin 256) (n : Fin 5120) : EReal :=
  MergeSpec.gelu ((∑ k, C (ix2 r k) * x2 (ix2 k n)) * S r * x3 (ix2 0 n) + x4 (ix2 0 n))

/-- Column `x` of column chunk `j`. -/
def colAt (j : Fin 10) (x : Fin 512) : Fin 5120 := ⟨512 * j.val + x.val, by have := j.2; have := x.2; omega⟩

include hR in
theorem actVal_at (j : Fin 10) (x : S256x512.Idx) :
    actVal (F := Ideal) a3 h3 a4 h4 a5 h5 C R x2 x3 x4 j x = actOf C S x2 x3 x4 (x 0) (colAt j (x 1)) := by
  have hz : zVal (F := Ideal) a3 h3 a4 h4 a5 h5 C R x2 x3 x4 j x
      = (∑ k, C (ix2 (x 0) k) * x2 (ix2 k (colAt j (x 1)))) * S (x 0) * x3 (ix2 0 (colAt j (x 1))) + x4 (ix2 0 (colAt j (x 1))) := by
    unfold zVal
    rw [load_whole, load_whole, load_whole]
    pointwise []
    simp only [hR]
    split_ifs <;> rfl
  unfold actVal
  generalize zVal (F := Ideal) a3 h3 a4 h4 a5 h5 C R x2 x3 x4 j = Z at hz
  pointwise [gelu]
  rw [hz]
  rfl

include hR in
theorem canon_acts (y : S256x5120.Idx) : View.canon (acts (F := Ideal) a3 h3 a4 h4 a5 h5 C R x2 x3 x4) y = actOf C S x2 x3 x4 (y 0) (y 1) := by
  have h0 : (y 0 : ℕ) < 256 := (y 0).isLt
  have h1' : (y 1 : ℕ) < 5120 := (y 1).isLt
  refine View.canon_apply_of_pieces (fun y : S256x5120.Idx => actOf C S x2 x3 x4 (y 0) (y 1)) _ (fun q hq x => ?_) y
    ⟨actPiece a3 h3 a4 h4 a5 h5 C R x2 x3 x4 ⟨(y 1 : ℕ) / 512, by omega⟩, List.mem_map.2 ⟨_, mem10 _, rfl⟩, ?_⟩
  · obtain ⟨j, -, rfl⟩ := List.mem_map.1 hq
    have e := ValueKit.rect_emb_unit_val (s := S256x5120) ![0, 512 * j.val] S256x512.size (act_inb j) x
    have e0 : (actPiece (F := Ideal) a3 h3 a4 h4 a5 h5 C R x2 x3 x4 j).1.emb x 0 = x 0 := Fin.ext ((e 0).trans (Nat.zero_add _))
    have e1 : (actPiece (F := Ideal) a3 h3 a4 h4 a5 h5 C R x2 x3 x4 j).1.emb x 1 = colAt j (x 1) := Fin.ext (e 1)
    rw [e0, e1]
    refine Eq.trans ?_ (actVal_at a3 h3 a4 h4 a5 h5 C R S hR x2 x3 x4 j x)
    exact congrFun (shapeCast_self (actVal (F := Ideal) a3 h3 a4 h4 a5 h5 C R x2 x3 x4 j) shapeCasts_S256x512_S256x512) x
  · refine (Rect.mem_set_unit (inb := act_inb _)).2 fun a => ?_
    fin_cases a
    · show 0 ≤ (y 0 : ℕ) ∧ (y 0 : ℕ) < 0 + 256
      omega
    · show 512 * ((y 1 : ℕ) / 512) ≤ (y 1 : ℕ) ∧ (y 1 : ℕ) < 512 * ((y 1 : ℕ) / 512) + 512
      omega

include hR in
theorem laneMax_le (j : Fin 10) (x : S256x128.Idx) (c : EReal) :
    laneMax (F := Ideal) (absf (actVal (F := Ideal) a3 h3 a4 h4 a5 h5 C R x2 x3 x4 j)) x ≤ c
      ↔ ∀ q : Fin 4, mag (actOf C S x2 x3 x4 (x 0) (colAt j ⟨128 * q.val + (x 1 : ℕ), by have := q.2; have : (x 1 : ℕ) < 128 := (x 1).isLt; omega⟩)) ≤ c := by
  have hA := actVal_at a3 h3 a4 h4 a5 h5 C R S hR x2 x3 x4 j
  generalize actVal (F := Ideal) a3 h3 a4 h4 a5 h5 C R x2 x3 x4 j = A at hA
  have e : ∀ q : Fin 4, FloatOps.absf (F := Ideal) (φ := .f32) (A (ix2 (x 0) (⟨128 * q.val + (x 1 : ℕ), by have := q.2; have : (x 1 : ℕ) < 128 := (x 1).isLt; omega⟩ : Fin 512)))
      = mag (actOf C S x2 x3 x4 (x 0) (colAt j ⟨128 * q.val + (x 1 : ℕ), by have := q.2; have : (x 1 : ℕ) < 128 := (x 1).isLt; omega⟩)) := fun q => congrArg mag (hA _)
  have hl : laneMax (F := Ideal) (absf A) x = max (max (max
      (FloatOps.absf (F := Ideal) (φ := .f32) (A (ix2 (x 0) (⟨128 * (0 : Fin 4).val + (x 1 : ℕ), by have : (x 1 : ℕ) < 128 := (x 1).isLt; simp; omega⟩ : Fin 512))))
      (FloatOps.absf (F := Ideal) (φ := .f32) (A (ix2 (x 0) (⟨128 * (1 : Fin 4).val + (x 1 : ℕ), by have : (x 1 : ℕ) < 128 := (x 1).isLt; simp; omega⟩ : Fin 512)))))
      (FloatOps.absf (F := Ideal) (φ := .f32) (A (ix2 (x 0) (⟨128 * (2 : Fin 4).val + (x 1 : ℕ), by have : (x 1 : ℕ) < 128 := (x 1).isLt; simp; omega⟩ : Fin 512)))))
      (FloatOps.absf (F := Ideal) (φ := .f32) (A (ix2 (x 0) (⟨128 * (3 : Fin 4).val + (x 1 : ℕ), by have : (x 1 : ℕ) < 128 := (x 1).isLt; simp; omega⟩ : Fin 512)))) := by
    pointwise [laneMax]
    try simp
    try rfl
  rw [hl, e, e, e, e, max_le_iff, max_le_iff, max_le_iff]
  exact ⟨fun h q => by
    obtain ⟨⟨⟨g0, g1⟩, g2⟩, g3⟩ := h
    fin_cases q
    · exact g0
    · exact g1
    · exact g2
    · exact g3, fun h => ⟨⟨⟨h 0, h 1⟩, h 2⟩, h 3⟩⟩

include hR in
theorem canon_mxs_le (L : List (Fin 10)) (x : S256x128.Idx) (c : EReal) :
    View.canon (mxs (F := Ideal) a3 h3 a4 h4 a5 h5 a13 C R x2 x3 x4 L) x ≤ c
      ↔ 0 ≤ c ∧ ∀ j ∈ L, ∀ q : Fin 4, mag (actOf C S x2 x3 x4 (x 0) (colAt j ⟨128 * q.val + (x 1 : ℕ), by have := q.2; have : (x 1 : ℕ) < 128 := (x 1).isLt; omega⟩)) ≤ c := by
  induction L with
  | nil =>
    have e : View.canon (mxs (F := Ideal) a3 h3 a4 h4 a5 h5 a13 C R x2 x3 x4 []) x = 0 := by
      rw [mxs, View.canon_cons_unit_lit' _ _ _ (by decide)]
      pointwise []
    rw [e]
    exact ⟨fun h => ⟨h, fun k hk => (List.not_mem_nil hk).elim⟩, fun h => h.1⟩
  | cons j js ih =>
    have e : View.canon (mxs (F := Ideal) a3 h3 a4 h4 a5 h5 a13 C R x2 x3 x4 (j :: js)) x
        = max (View.canon (mxs (F := Ideal) a3 h3 a4 h4 a5 h5 a13 C R x2 x3 x4 js) x) (laneMax (F := Ideal) (absf (actVal (F := Ideal) a3 h3 a4 h4 a5 h5 C R x2 x3 x4 j)) x) := by
      rw [mxs, View.canon_cons_unit_lit' _ _ _ (by decide), View.readCov_eq_canon']
      generalize View.canon (mxs (F := Ideal) a3 h3 a4 h4 a5 h5 a13 C R x2 x3 x4 js) = M
      generalize laneMax (F := Ideal) (absf (actVal (F := Ideal) a3 h3 a4 h4 a5 h5 C R x2 x3 x4 j)) = N
      pointwise []
      try rfl
    rw [e]
    refine max_le_iff.trans ((and_congr ih (laneMax_le a3 h3 a4 h4 a5 h5 C R S hR x2 x3 x4 j x c)).trans ?_)
    exact ⟨fun h => ⟨h.1.1, List.forall_mem_cons.2 ⟨h.2, h.1.2⟩⟩, fun h => ⟨⟨h.1, (List.forall_mem_cons.1 h.2).2⟩, (List.forall_mem_cons.1 h.2).1⟩⟩

theorem rowMax_at (N : FVec Ideal S32x128 .f32) (x : S32x1.Idx) :
    rowScale (F := Ideal) (shapeCast S32x1 (multiReduction (F := Ideal) .maximumf [1] S32 N 0xFF800000#32 reduces_S32x128_S32 (.inl rfl) rfl) shapeCasts_S32_S32x1) x
      = scaleOf ((Finset.univ : Finset (Fin 128)).fold max ⊥ fun l => N (ix2 (x 0) l)) := by
  pointwise [rowScale]
  rw [ninf_eq]
  rfl

include hR in
theorem gscale_at (i : Fin 8) (x : S32x1.Idx) :
    gscale (F := Ideal) a3 h3 a4 h4 a5 h5 a13 C R x2 x3 x4 i x = scaleOf (rmax (actOf C S x2 x3 x4 (rowAt i (x 0)))) := by
  have hm : (Finset.univ : Finset (Fin 128)).fold max ⊥ (fun l => View.canon (mxs (F := Ideal) a3 h3 a4 h4 a5 h5 a13 C R x2 x3 x4 [9, 8, 7, 6, 5, 4, 3, 2, 1, 0]) (ix2 (rowAt i (x 0)) l))
      = rmax (actOf C S x2 x3 x4 (rowAt i (x 0))) := by
    refine eq_of_forall_ge_iff fun c => ?_
    rw [rmax_le, Finset.fold_max_le]
    simp only [canon_mxs_le a3 h3 a4 h4 a5 h5 a13 C R S hR x2 x3 x4, mem10, Finset.mem_univ, true_imp_iff, bot_le, true_and]
    refine ⟨fun h => ⟨(h 0).1, fun n => ?_⟩, fun h l => ⟨h.1, fun j q => h.2 _⟩⟩
    have h' := (h ⟨n.val % 128, Nat.mod_lt _ (by decide)⟩).2 ⟨n.val / 512, by have := n.2; omega⟩ ⟨n.val % 512 / 128, by omega⟩
    have hn : colAt ⟨n.val / 512, by have := n.2; omega⟩ ⟨128 * (n.val % 512 / 128) + n.val % 128, by omega⟩ = n :=
      Fin.ext (by show 512 * (n.val / 512) + (128 * (n.val % 512 / 128) + n.val % 128) = n.val; omega)
    rw [← hn]
    exact h'
  refine (rowMax_at _ x).trans (congrArg scaleOf ?_)
  rw [View.readCov_eq_canon', ← hm]
  refine congrArg (fun f => (Finset.univ : Finset (Fin 128)).fold max ⊥ f) (funext fun l => congrArg _ (funext fun a => Fin.ext ?_))
  fin_cases a
  · exact Rect.idx_unit_val _ _ _ _ 0
  · exact (Rect.idx_unit_val _ _ _ _ 1).trans (Nat.zero_add _)

/-- The activation codes. -/
def actCodesOf (y : S256x5120.Idx) : EReal := code (actOf C S x2 x3 x4 (y 0) (y 1)) (scaleOf (rmax (actOf C S x2 x3 x4 (y 0))))

include hR in
theorem gcPiece_at (i : Fin 8) (x : S32x5120.Idx) : (gcPiece (F := Ideal) a3 h3 a4 h4 a5 h5 a11 a13 C R x2 x3 x4 i).2 x
    = code (actOf C S x2 x3 x4 (rowAt i (x 0)) (x 1)) (scaleOf (rmax (actOf C S x2 x3 x4 (rowAt i (x 0))))) := by
  have hg := gscale_at a3 h3 a4 h4 a5 h5 a13 C R S hR x2 x3 x4 i
  have ha := canon_acts a3 h3 a4 h4 a5 h5 C R S hR x2 x3 x4
  unfold gcPiece
  rw [View.readCov_eq_canon']
  generalize gscale (F := Ideal) a3 h3 a4 h4 a5 h5 a13 C R x2 x3 x4 i = Q at hg
  generalize View.canon (acts (F := Ideal) a3 h3 a4 h4 a5 h5 C R x2 x3 x4) = A at ha
  dsimp only
  pointwise []
  rw [hg, ha, code_eq _ (scale_pos (rmax_nonneg _))]
  rfl

theorem cover_gcs (y : S256x5120.Idx) : ∃ q ∈ gcs (F := Ideal) a3 h3 a4 h4 a5 h5 a11 a13 C R x2 x3 x4, y ∈ q.1.set := by
  have h0 : (y 0 : ℕ) < 256 := (y 0).isLt
  have h1' : (y 1 : ℕ) < 5120 := (y 1).isLt
  refine ⟨gcPiece a3 h3 a4 h4 a5 h5 a11 a13 C R x2 x3 x4 ⟨(y 0 : ℕ) / 32, by omega⟩, List.mem_map.2 ⟨_, mem8 _, rfl⟩, ?_⟩
  refine (Rect.mem_set_unit (inb := gc_inb _)).2 fun a => ?_
  fin_cases a
  · show 32 * ((y 0 : ℕ) / 32) ≤ (y 0 : ℕ) ∧ (y 0 : ℕ) < 32 * ((y 0 : ℕ) / 32) + 32
    omega
  · show 0 ≤ (y 1 : ℕ) ∧ (y 1 : ℕ) < 0 + 5120
    omega

include hR in
theorem canon_gcs (y : S256x5120.Idx) : View.canon (gcs (F := Ideal) a3 h3 a4 h4 a5 h5 a11 a13 C R x2 x3 x4) y = actCodesOf C S x2 x3 x4 y := by
  refine View.canon_apply_of_pieces (actCodesOf C S x2 x3 x4) _ (fun q hq x => ?_) y (cover_gcs a3 h3 a4 h4 a5 h5 a11 a13 C R x2 x3 x4 y)
  obtain ⟨i, -, rfl⟩ := List.mem_map.1 hq
  have e := ValueKit.rect_emb_unit_val (s := S256x5120) ![32 * i.val, 0] S32x5120.size (gc_inb i) x
  have e0 : (gcPiece (F := Ideal) a3 h3 a4 h4 a5 h5 a11 a13 C R x2 x3 x4 i).1.emb x 0 = rowAt i (x 0) := Fin.ext (e 0)
  have e1 : (gcPiece (F := Ideal) a3 h3 a4 h4 a5 h5 a11 a13 C R x2 x3 x4 i).1.emb x 1 = x 1 := Fin.ext ((e 1).trans (Nat.zero_add _))
  rw [actCodesOf, e0, e1]
  exact gcPiece_at a3 h3 a4 h4 a5 h5 a11 a13 C R S hR x2 x3 x4 i x

end

end Cert.Merge1Ideal.Model

end
-- ==== Proof.MergeStore.lean ====
/- What the first projection's kernel leaves in its four output buffers at one grid point, over the reals. -/
module

public import proofs.«01_k».proof.Proof.MergeValue
public import Idealize.ShloMosaic.Lib.WritesUnit
public import Idealize.ShloMosaic.Lib.Pipeline.FrameBody

@[expose] public section

set_option maxRecDepth 16384

noncomputable section

namespace Cert.Merge1Ideal.Model

open Cert.Merge1Ideal Cert.Merge1Ideal.Gen
open Idealize.ShloMosaic Idealize.ShloMosaic.TcCoe Idealize.SL.Sem
open Cert.MergeSpec hiding gelu

/-! ## One row of scales from the lanes of a block of rows -/

section
variable (v : View sig .tc .vmem S32x128 .f32) (f : v.ty.Contents (Elt Ideal)) (a12 : Memref sig .tc .vmem S256x128 .f32) (i : grid0.Coords)
  (L : List (View.Piece (Elt Ideal) S256x128 .f32)) (S : Fin 256 → EReal) (hL : ∀ y, View.canon L y = S (y 0))

include hL in
theorem diag_at (o : ℕ) (ho : o + 128 ≤ 256) (inb : ∀ a, (![o, 0] : Fin 2 → ℕ) a + S128x128.size a ≤ S256x128.size a) (x : S1x128.Idx) :
    diagRow (F := Ideal) (a12.view.readCov (Val := Elt Ideal) L (Rect.unit (s := S256x128) ![o, 0] S128x128.size inb).toLoadRect) x
      = S ⟨o + (x 1 : ℕ), by have : (x 1 : ℕ) < 128 := (x 1).isLt; omega⟩ := by
  rw [diagRow_at, View.readCov_eq_canon']
  refine (hL _).trans (congrArg S (Fin.ext ?_))
  exact Rect.idx_unit_val _ _ _ _ 0

include hL in
/-- The two rows the point stores, and the rows it leaves alone. -/
theorem read_rows_new (r : Fin 256) (y : S32x128.Idx) (h0 : (y 0 : ℕ) = 2 * (i 0).val + r.val / 128) (h1 : (y 1 : ℕ) = r.val % 128) :
    v.read (Elt Ideal) (v.writes (Elt Ideal) f (rowPieces (F := Ideal) a12 i L)) y = S r := by
  have hr := r.2
  by_cases h : 128 ≤ r.val
  · refine (View.read_writes_cons_rows_of_mem v f (o := 2 * (i 0).val + 1) _ _ _ y (ix2 (0 : Fin 1) (⟨r.val % 128, Nat.mod_lt _ (by decide)⟩ : Fin 128))
      (k0_off1_eq i 1) (by show (y 0 : ℕ) = 2 * (i 0).val + 1 + 0; omega) h1).trans ?_
    refine (diag_at a12 L S hL 128 (by decide) _ _).trans (congrArg S (Fin.ext ?_))
    show 128 + r.val % 128 = r.val
    omega
  · refine (View.read_writes_cons_rows_of_not_mem v f (o := 2 * (i 0).val + 1) (W := 1) _ _ _ y (k0_off1_eq i 1) rfl (.inl (by omega))).trans ?_
    refine (View.read_writes_cons_rows_of_mem v f (o := 2 * (i 0).val + 0) _ _ _ y (ix2 (0 : Fin 1) (⟨r.val % 128, Nat.mod_lt _ (by decide)⟩ : Fin 128))
      (k0_off1_eq i 0) (by show (y 0 : ℕ) = 2 * (i 0).val + 0 + 0; omega) h1).trans ?_
    refine (diag_at a12 L S hL 0 (by decide) _ _).trans (congrArg S (Fin.ext ?_))
    show 0 + r.val % 128 = r.val
    omega

theorem read_rows_old (y : S32x128.Idx) (h : (y 0 : ℕ) < 2 * (i 0).val) :
    v.read (Elt Ideal) (v.writes (Elt Ideal) f (rowPieces (F := Ideal) a12 i L)) y = v.read (Elt Ideal) f y := by
  refine (View.read_writes_cons_rows_of_not_mem v f (o := 2 * (i 0).val + 1) (W := 1) _ _ _ y (k0_off1_eq i 1) rfl (.inl (by omega))).trans ?_
  refine (View.read_writes_cons_rows_of_not_mem v f (o := 2 * (i 0).val + 0) (W := 1) _ _ _ y (k0_off1_eq i 0) rfl (.inl (by omega))).trans ?_
  rfl

end

section
variable (a1 : Memref sig .tc .vmem S1024x1280 .bf16) (h1 : a1.IsWhole) (a2 : Memref sig .tc .vmem S1x1280 .f32) (h2 : a2.IsWhole)
  (a3 : Memref sig .tc .vmem S5120x5120 .fp8e4m3) (h3 : a3.IsWhole) (a4 : Memref sig .tc .vmem S1x5120 .f32) (h4 : a4.IsWhole)
  (a5 : Memref sig .tc .vmem S1x5120 .f32) (h5 : a5.IsWhole) (a6 : Memref sig .tc .vmem S256x5120 .fp8e4m3)
  (a10 : Memref sig .tc .vmem S10x1024x128 .f32) (a11 : Memref sig .tc .vmem S256x5120 .f32) (a12 a13 : Memref sig .tc .vmem S256x128 .f32)
  (x0 : Vec Ideal S1024x1280 .bf16) (x1 : Vec Ideal S1x1280 .f32) (x2 : Vec Ideal S5120x5120 .fp8e4m3) (x3 : Vec Ideal S1x5120 .f32) (x4 : Vec Ideal S1x5120 .f32)

theorem codesIn_eq : codesIn (F := Ideal) a1 h1 a2 h2 a6 a10 x0 x1 = codesOf x0 x1 := by
  funext y
  unfold codesIn
  rw [View.readCov_eq_canon']
  refine (canon_mcs a1 h1 a2 h2 a10 x0 x1 _).trans (congrArg (codesOf x0 x1) (funext fun a => Fin.ext ?_))
  fin_cases a
  · exact (Rect.idx_unit_val _ _ _ _ 0).trans (Nat.zero_add _)
  · exact (Rect.idx_unit_val _ _ _ _ 1).trans (Nat.zero_add _)

theorem canon_rss (y : S256x128.Idx) : View.canon (rss (F := Ideal) a1 h1 a2 h2 a10 x0 x1) y = scaleAt x0 x1 (y 0) := by
  have h := canon_rows (scaleAt x0 x1) (scale (F := Ideal) a1 h1 a2 h2 a10 x0 x1) (scale_at a1 h1 a2 h2 a10 x0 x1) [] y
  rw [List.append_nil] at h
  exact h

theorem scalesIn_at (y : S256x128.Idx) : scalesIn (F := Ideal) a1 h1 a2 h2 a10 a12 x0 x1 y = scaleAt x0 x1 (y 0) := by
  unfold scalesIn
  rw [View.readCov_eq_canon']
  refine (canon_rss a1 h1 a2 h2 a10 x0 x1 _).trans (congrArg (scaleAt x0 x1) (Fin.ext ?_))
  exact (Rect.idx_unit_val _ _ _ _ 0).trans (Nat.zero_add _)

/-- The activations' row scale. -/
def actScaleAt (x0 : Vec Ideal S1024x1280 .bf16) (x1 : Vec Ideal S1x1280 .f32) (x2 : Vec Ideal S5120x5120 .fp8e4m3) (x3 x4 : Vec Ideal S1x5120 .f32) (r : Fin 256) : EReal :=
  scaleOf (rmax (actOf (codesOf x0 x1) (scaleAt x0 x1) x2 x3 x4 r))

theorem canon_gsList (y : S256x128.Idx) :
    View.canon (gsList (F := Ideal) a1 h1 a2 h2 a3 h3 a4 h4 a5 h5 a6 a10 a12 a13 x0 x1 x2 x3 x4) y = actScaleAt x0 x1 x2 x3 x4 (y 0) := by
  unfold gsList
  rw [codesIn_eq]
  exact canon_rows (actScaleAt x0 x1 x2 x3 x4) _
    (gscale_at a3 h3 a4 h4 a5 h5 a13 (codesOf x0 x1) _ (scaleAt x0 x1) (scalesIn_at a1 h1 a2 h2 a10 a12 x0 x1) x2 x3 x4) _ y

theorem read_mcs (v : View sig .tc .vmem S256x5120 .fp8e4m3) (f : v.ty.Contents (Elt Ideal)) :
    v.read (Elt Ideal) (v.writes (Elt Ideal) f (mcs (F := Ideal) a1 h1 a2 h2 a10 x0 x1)) = codesOf x0 x1 :=
  funext fun y => (View.read_writes_apply_eq_canon v f y _ (cover_mcs a1 h1 a2 h2 a10 x0 x1 y)).trans (canon_mcs a1 h1 a2 h2 a10 x0 x1 y)

theorem read_gcList (v : View sig .tc .vmem S256x5120 .fp8e4m3) (f : v.ty.Contents (Elt Ideal)) :
    v.read (Elt Ideal) (v.writes (Elt Ideal) f (gcList (F := Ideal) a1 h1 a2 h2 a3 h3 a4 h4 a5 h5 a6 a10 a11 a12 a13 x0 x1 x2 x3 x4))
      = actCodesOf (codesOf x0 x1) (scaleAt x0 x1) x2 x3 x4 := by
  funext y
  unfold gcList
  rw [codesIn_eq]
  exact (View.read_writes_apply_eq_canon v f y _ (cover_gcs a3 h3 a4 h4 a5 h5 a11 a13 (codesOf x0 x1) _ x2 x3 x4 y)).trans
    (canon_gcs a3 h3 a4 h4 a5 h5 a11 a13 (codesOf x0 x1) _ (scaleAt x0 x1) (scalesIn_at a1 h1 a2 h2 a10 a12 x0 x1) x2 x3 x4 y)

end

end Cert.Merge1Ideal.Model

end
-- ==== Proof.MergeStep.lean ====
/- The run of the first projection's kernel body over the reals, its stores read as values. -/
module

public import proofs.«01_k».proof.Proof.MergeStore

@[expose] public section

set_option maxRecDepth 16384

noncomputable section

namespace Cert.Merge1Ideal.Model

open Cert.Merge1Ideal Cert.Merge1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords) (a1 : Memref sig .tc .vmem S1024x1280 .bf16) (h1 : a1.IsWhole) (a2 : Memref sig .tc .vmem S1x1280 .f32) (h2 : a2.IsWhole) (a3 : Memref sig .tc .vmem S5120x5120 .fp8e4m3) (h3 : a3.IsWhole) (a4 : Memref sig .tc .vmem S1x5120 .f32) (h4 : a4.IsWhole) (a5 : Memref sig .tc .vmem S1x5120 .f32) (h5 : a5.IsWhole) (a6 : Memref sig .tc .vmem S256x5120 .fp8e4m3) (h6 : a6.IsWhole) (a7 : Memref sig .tc .vmem S32x128 .f32) (h7 : a7.IsWhole) (a8 : Memref sig .tc .vmem S256x5120 .fp8e4m3) (h8 : a8.IsWhole) (a9 : Memref sig .tc .vmem S32x128 .f32) (h9 : a9.IsWhole) (a10 : Memref sig .tc .vmem S10x1024x128 .f32) (h10 : a10.IsWhole) (a11 : Memref sig .tc .vmem S256x5120 .f32) (h11 : a11.IsWhole) (a12 : Memref sig .tc .vmem S256x128 .f32) (h12 : a12.IsWhole) (a13 : Memref sig .tc .vmem S256x128 .f32) (h13 : a13.IsWhole)
    (x0 : Vec Ideal S1024x1280 .bf16) (x1 : Vec Ideal S1x1280 .f32) (x2 : Vec Ideal S5120x5120 .fp8e4m3) (x3 : Vec Ideal S1x5120 .f32) (x4 : Vec Ideal S1x5120 .f32)

/-- The body on whole staging buffers: the two buffers of codes end at their codes, the two buffers of scale rows at what
    they held with the point's rows stored over it. -/
theorem body_values (E : Set ℕ) (K : PUnit → sProp 𝕄) (d6 d8 : Vec Ideal S32x128 .f32) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare d6 ∗ (∃ d, owns (c : Thread nD τ) a8 fullShare d) ∗ owns (c : Thread nD τ) a9 fullShare d8
        ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (codesOf x0 x1)
            ∗ owns (c : Thread nD τ) a7 fullShare (a7.view.read (Elt Ideal) (a7.view.writes (Elt Ideal) (h7.unread d6) (rowPieces (F := Ideal) a12 i (rss a1 h1 a2 h2 a10 x0 x1))))
            ∗ owns (c : Thread nD τ) a8 fullShare (actCodesOf (codesOf x0 x1) (scaleAt x0 x1) x2 x3 x4)
            ∗ owns (c : Thread nD τ) a9 fullShare (a9.view.read (Elt Ideal) (a9.view.writes (Elt Ideal) (h9.unread d8) (rowPieces (F := Ideal) a12 i (gsList a1 h1 a2 h2 a3 h3 a4 h4 a5 h5 a6 a10 a12 a13 x0 x1 x2 x3 x4))))
            ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)) -∗ K ⟨⟩))
      ⊢ wp frame (wpE (defs₀ (F := Ideal)) Variants.none c none) E (cc0_merge1 i a1 h1 a2 h2 a3 h3 a4 h4 a5 h5 a6 h6 a7 h7 a8 h8 a9 h9 a10 h10 a11 h11 a12 h12 a13 h13) K := by
  have e5 := run_codes (F := Ideal) c i a1 h1 a2 h2 a3 h3 a4 h4 a5 h5 a6 h6 a7 h7 a8 h8 a9 h9 a10 h10 a11 h11 a12 h12 a13 h13 x0 x1 x2 x3 x4
  have e6 := run_scales (F := Ideal) c i a1 h1 a2 h2 a3 h3 a4 h4 a5 h5 a6 h6 a7 h7 a8 h8 a9 h9 a10 h10 a11 h11 a12 h12 a13 h13 x0 x1 x2 x3 x4
  have e7 := run_actCodes (F := Ideal) c i a1 h1 a2 h2 a3 h3 a4 h4 a5 h5 a6 h6 a7 h7 a8 h8 a9 h9 a10 h10 a11 h11 a12 h12 a13 h13 x0 x1 x2 x3 x4
  have e8 := run_actScales (F := Ideal) c i a1 h1 a2 h2 a3 h3 a4 h4 a5 h5 a6 h6 a7 h7 a8 h8 a9 h9 a10 h10 a11 h11 a12 h12 a13 h13 x0 x1 x2 x3 x4
  generalize run (F := Ideal) c i a1 h1 a2 h2 a3 h3 a4 h4 a5 h5 a6 h6 a7 h7 a8 h8 a9 h9 a10 h10 a11 h11 a12 h12 a13 h13 x0 x1 x2 x3 x4 = T at e5 e6 e7 e8
  obtain ⟨L5, L6, L7, L8, h⟩ := T
  dsimp only at e5 e6 e7 e8
  have g5 := read_mcs a1 h1 a2 h2 a10 x0 x1 a6.view
  have g7 := read_gcList a1 h1 a2 h2 a3 h3 a4 h4 a5 h5 a6 a10 a11 a12 a13 x0 x1 x2 x3 x4 a8.view
  rw [← e5] at g5
  rw [← e7] at g7
  rw [← e6, ← e8]
  clear e5 e6 e7 e8
  iintro ⟨H0, H1, H2, H3, H4, H5, H6, H7, H8, HS0, HS1, HS2, HS3, Hk⟩
  iapply (h E K d6 d8)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, ⟨%f5, H5⟩, H6, ⟨%f7, H7⟩, H8, HS0, HS1, HS2, HS3⟩
  iapply Hk
  isplitl [H0]; · iexact H0
  isplitl [H1]; · iexact H1
  isplitl [H2]; · iexact H2
  isplitl [H3]; · iexact H3
  isplitl [H4]; · iexact H4
  isplitl [H5]
  · unfold owns
    iexists _; isplitr; swap; · iexact H5
    ipureintro; exact g5 _
  isplitl [H6]
  · unfold owns
    iexists _; isplitr; swap; · iexact H6
    ipureintro; rfl
  isplitl [H7]
  · unfold owns
    iexists _; isplitr; swap; · iexact H7
    ipureintro; exact g7 _
  isplitl [H8]
  · unfold owns
    iexists _; isplitr; swap; · iexact H8
    ipureintro; rfl
  isplitl [HS0]; · iexact HS0
  isplitl [HS1]; · iexact HS1
  isplitl [HS2]; · iexact HS2
  iexact HS3

end Cert.Merge1Ideal.Model

end
-- ==== Proof.MergeFrame.lean ====
/- The run of the first projection over the reals: what its four output buffers hold, point by point, and the frame.
   The two buffers of scale rows are filled over the grid, two rows a point; what is known of them after a point is the
   rows stored so far. -/
module

public import proofs.«01_k».proof.Proof.MergeStep
public import Idealize.ShloMosaic.Lib.Pipeline.DatRel
public import Idealize.ShloMosaic.Lib.Pipeline.ArrRel
public import Idealize.ShloMosaic.Lib.Claim

@[expose] public section

set_option maxRecDepth 16384

noncomputable section

namespace Cert.Merge1Ideal.Rel

open Cert.Merge1Ideal Cert.Merge1Ideal.Gen Cert.Merge1Ideal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## The staging buffers -/

abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .f32 := win0_8.stage (cfg0.slots t 8)
abbrev hs0_8 (t : Fin cfg0.N) : (ms0_8 t).IsWhole := hstage0_8 ((cfg0.slots t 8).cast nbuf0_8)
abbrev scM0_0 : Memref sig .tc .vmem S10x1024x128 .f32 := Memref.whole cc0_scratch0
abbrev scM0_1 : Memref sig .tc .vmem S256x5120 .f32 := Memref.whole cc0_scratch1
abbrev scM0_2 : Memref sig .tc .vmem S256x128 .f32 := Memref.whole cc0_scratch2
abbrev scM0_3 : Memref sig .tc .vmem S256x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the output buffers hold -/

/-- The codes of point `t`. -/
def codesAt (c : Dev nD) (t : Fin cfg0.N) : S256x5120.Idx → EReal := codesOf (iblk m c 0 t) (iblk m c 1 t)
/-- The scale of row `r` of point `t`. -/
def rowS (c : Dev nD) (t : Fin cfg0.N) (r : Fin 256) : EReal := scaleAt (iblk m c 0 t) (iblk m c 1 t) r
/-- The activation codes of point `t`. -/
def actCodesAt (c : Dev nD) (t : Fin cfg0.N) : S256x5120.Idx → EReal :=
  actCodesOf (codesOf (iblk m c 0 t) (iblk m c 1 t)) (scaleAt (iblk m c 0 t) (iblk m c 1 t)) (iblk m c 2 t) (iblk m c 3 t) (iblk m c 4 t)
/-- The activation scale of row `r` of point `t`. -/
def rowG (c : Dev nD) (t : Fin cfg0.N) (r : Fin 256) : EReal := actScaleAt (iblk m c 0 t) (iblk m c 1 t) (iblk m c 2 t) (iblk m c 3 t) (iblk m c 4 t) r

theorem lt16 (u : Fin cfg0.N) : u.val < 16 := u.isLt

/-- Where row `r` of point `u` has its scale. -/
def rowIx (u : Fin cfg0.N) (r : Fin 256) : S32x128.Idx :=
  ix2 (⟨2 * u.val + r.val / 128, by have := lt16 u; have := r.2; omega⟩ : Fin 32) (⟨r.val % 128, Nat.mod_lt _ (by decide)⟩ : Fin 128)

/-- A buffer of scale rows after point `t`: the rows of the points so far. -/
def Rows (S : Fin cfg0.N → Fin 256 → EReal) (t : Fin cfg0.N) (X : S32x128.Idx → EReal) : Prop :=
  ∀ (u : Fin cfg0.N) (r : Fin 256), u.val ≤ t.val → X (rowIx u r) = S u r

/-- The output windows. -/
def outs0 : Fin 9 → Bool := fun w => w.val == 5 || w.val == 6 || w.val == 7 || w.val == 8

def Rl (c : Dev nD) : (w : Fin cfg0.W) → Fin cfg0.N → ((cfg0.win w).block.Idx → Elt Ideal (cfg0.win w).elt) → Prop := fun w t =>
  match w with
  | ⟨5, _⟩ => fun X => X = codesAt m c t
  | ⟨6, _⟩ => fun X => Rows (rowS m c) t X
  | ⟨7, _⟩ => fun X => X = actCodesAt m c t
  | ⟨8, _⟩ => fun X => Rows (rowG m c) t X
  | _ => fun _ => True

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The relational data: the outputs held to `Rl`. -/
abbrev rdat (c : Dev nD) : Pipeline.RDat τ (Elt Ideal) Unit ℕ (UR sig nD τ) ℕ (cfgs 0) c := (dats m 0 c).toRRel outs0 (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What a buffer of scale rows may hold before point `t`: the rows of the points before it. -/
theorem finds_rows (c : Dev nD) (w : Fin cfg0.W) (how : outs0 w = true) (hf : ∀ t, (cfg0.win w).fetch t = false)
    (hl : ∀ t : Fin cfg0.N, (cfg0.win w).flush t = true → t.val % 16 = 15)
    (t : Fin cfg0.N) (Y : (cfg0.win w).block.Idx → Elt Ideal (cfg0.win w).elt) (hY : ((dats m 0 c).toRRel outs0 (Rl m c)).Finds w t Y)
    (h0 : t.val ≠ 0) : Rl m c w ⟨t.val - 1, Nat.lt_of_le_of_lt (Nat.sub_le _ _) t.isLt⟩ Y := by
  rcases ((Pipeline.RDat.finds_of_pos _ (hf t) h0 Y).1 hY) with h | h
  · have := hl _ h
    have := lt16 t
    exact absurd this (by simp only at *; omega)
  · exact (dats m 0 c).toRRel_leaves how h

theorem rows_step (S : Fin cfg0.N → Fin 256 → EReal) (c : Dev nD) (t : Fin cfg0.N) (a : Memref sig .tc .vmem S32x128 .f32) (h : a.IsWhole)
    (a12 : Memref sig .tc .vmem S256x128 .f32) (L : List (View.Piece (Elt Ideal) S256x128 .f32)) (hL : ∀ y, View.canon L y = S t (y 0))
    (Y : Vec Ideal S32x128 .f32) (hY : t.val ≠ 0 → Rows S ⟨t.val - 1, Nat.lt_of_le_of_lt (Nat.sub_le _ _) t.isLt⟩ Y) :
    Rows S t (a.view.read (Elt Ideal) (a.view.writes (Elt Ideal) (h.unread Y) (rowPieces (F := Ideal) a12 (grid0.coords t) L))) := by
  have hc : ((grid0.coords t) 0).val = t.val := by
    have := Pipeline.Grid.coords_val (G := grid0) t 0 (S := 1) (B := 16) (by decide) (by decide)
    have := lt16 t
    omega
  intro u r hu
  rcases Nat.lt_or_ge u.val t.val with h1 | h1
  · refine (read_rows_old _ _ a12 _ L _ ?_).trans ?_
    · rw [hc]
      show 2 * u.val + r.val / 128 < 2 * t.val
      have := r.2
      omega
    · rw [h.read_unread]
      exact hY (by omega) u r (by show u.val ≤ t.val - 1; omega)
  · obtain rfl : u = t := Fin.ext (by omega)
    exact read_rows_new _ _ a12 _ L (S u) hL r _ (by rw [hc]; rfl) rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, ⌜((dats m 0 c).toRRel outs0 (Rl m c)).Finds 5 t d⌝ ∗ owns (c : Thread nD τ) (ms0_5 t) fullShare d)
    ∗ (∃ d, ⌜((dats m 0 c).toRRel outs0 (Rl m c)).Finds 6 t d⌝ ∗ owns (c : Thread nD τ) (ms0_6 t) fullShare d)
    ∗ (∃ d, ⌜((dats m 0 c).toRRel outs0 (Rl m c)).Finds 7 t d⌝ ∗ owns (c : Thread nD τ) (ms0_7 t) fullShare d)
    ∗ (∃ d, ⌜((dats m 0 c).toRRel outs0 (Rl m c)).Finds 8 t d⌝ ∗ owns (c : Thread nD τ) (ms0_8 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X))

set_option maxHeartbeats 1200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, -, H5⟩, ⟨%d6, %h6, H6⟩, ⟨%d7, -, H7⟩, ⟨%d8, %h8, H8⟩⟩
  iapply (body_values c (grid0.coords t) _ _ _ _ _ _ _ _ _ _ _ _ _ _ _ _ _ _ _ _ _ _ _ _ _ _ (iblk m c 0 t) (iblk m c 1 t) (iblk m c 2 t) (iblk m c 3 t) (iblk m c 4 t) Set.univ _ d6 d8)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact rfl
  isplitl [H6]
  · iexists _; isplitr; swap; · iexact H6
    ipureintro
    exact rows_step (rowS m c) c t _ _ _ _ (canon_rss _ _ _ _ _ _ _) d6 (finds_rows m c 6 rfl (fun _ => rfl) (fun t h => (flush0_6 t).1 h) t d6 h6)
  isplitl [H7]
  · iexists _; isplitr; swap; · iexact H7
    ipureintro; exact rfl
  iexists _; isplitr; swap; · iexact H8
  ipureintro
  exact rows_step (rowG m c) c t _ _ _ _ (canon_gsList _ _ _ _ _ _ _ _ _ _ _ _ _ _ _ _ _ _ _) d8 (finds_rows m c 8 rfl (fun _ => rfl) (fun t h => (flush0_8 t).1 h) t d8 h8)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationRel (dats m 0 c) (defs₀ (F := Ideal)) Variants.none () Set.univ outs0 (Rl m c) := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.RDat.FramePost (cfgs 0) (rdat m) (V m)) :=
  (θ_run defs _ _).mono (fun _ h => h.1) (run_main_quiescent m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => by
    obtain ⟨h, hs⟩ := hr
    exact ⟨fun c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hs⟩) (run_main_quiescent m ρ)

end Cert.Merge1Ideal.Rel

end
-- ==== Proof.MergeFinal.lean ====
/- The four results of the first projection's run, as functions of the argument arrays. -/
module

public import proofs.«01_k».proof.Proof.MergeFrame
public import Idealize.ShloMosaic.Lib.Pipeline.ValueKit
public import Idealize.ShloMosaic.Lib.StableHlo.RunRead

@[expose] public section

set_option maxRecDepth 16384

noncomputable section

namespace Cert.Merge1Ideal.Rel

open Cert.Merge1Ideal Cert.Merge1Ideal.Gen Cert.Merge1Ideal.Model Cert.MergeSpec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments -/

def xs (c : Dev nD) (R : Fin 16384) (d : Fin 1280) : EReal := m ((c : Thread nD τ).loc main_arg0) (ix2 R d)
def gs (c : Dev nD) (d : Fin 1280) : EReal := m ((c : Thread nD τ).loc main_arg1) (ix1 d)
def ws (c : Dev nD) (k n : Fin 5120) : EReal := m ((c : Thread nD τ).loc main_arg2) (ix2 k n)
def ss (c : Dev nD) (n : Fin 5120) : EReal := m ((c : Thread nD τ).loc main_arg3) (ix1 n)
def bs (c : Dev nD) (n : Fin 5120) : EReal := m ((c : Thread nD τ).loc main_arg4) (ix1 n)

/-- The block index of every window at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![0, 0] :=
  (by decide +kernel : ∀ t : Fin grid0.N, _)

theorem blk0 (c : Dev nD) (t : Fin cfg0.N) (i : Fin 1024) (d : Fin 1280) :
    iblk m c 0 t (ix2 i d) = xs m c ⟨1024 * t.val + i.val, by have := lt16 t; have := i.2; omega⟩ d := by
  unfold xs
  blk_point [iblk, V, idx t]

theorem blk1 (c : Dev nD) (t : Fin cfg0.N) (d : Fin 1280) : iblk m c 1 t (ix2 0 d) = gs m c d := by
  unfold gs
  blk_point [iblk, V, idx t]

theorem blk2 (c : Dev nD) (t : Fin cfg0.N) (k n : Fin 5120) : iblk m c 2 t (ix2 k n) = ws m c k n := by
  unfold ws
  blk_point [iblk, V, idx t]

theorem blk3 (c : Dev nD) (t : Fin cfg0.N) (n : Fin 5120) : iblk m c 3 t (ix2 0 n) = ss m c n := by
  unfold ss
  blk_point [iblk, V, idx t]

theorem blk4 (c : Dev nD) (t : Fin cfg0.N) (n : Fin 5120) : iblk m c 4 t (ix2 0 n) = bs m c n := by
  unfold bs
  blk_point [iblk, V, idx t]

/-- Row `r` of point `t` in the whole array. -/
def rowNo (t : Fin cfg0.N) (r : Fin 256) : Fin 4096 := ⟨256 * t.val + r.val, by have := lt16 t; have := r.2; omega⟩

theorem row_eq (c : Dev nD) (t : Fin cfg0.N) (r : Fin 256) :
    merged (Model.rowOf (iblk m c 0 t) r) (gainOf (iblk m c 1 t)) = mrow (xs m c) (gs m c) (rowNo t r) := by
  have e1 : Model.rowOf (iblk m c 0 t) r = fun p d => xs m c ⟨4 * (rowNo t r).val + p.val, by have := (rowNo t r).2; have := p.2; omega⟩ d := by
    funext p d
    refine (blk0 m c t _ d).trans (congrArg (fun R => xs m c R d) (Fin.ext ?_))
    show 1024 * t.val + (4 * r.val + p.val) = 4 * (256 * t.val + r.val) + p.val
    omega
  have e2 : gainOf (iblk m c 1 t) = gs m c := funext fun d => blk1 m c t d
  rw [e1, e2]
  rfl

theorem rowS_eq (c : Dev nD) (t : Fin cfg0.N) (r : Fin 256) : rowS m c t r = mscale (xs m c) (gs m c) (rowNo t r) :=
  congrArg (fun f => scaleOf (rmax f)) (row_eq m c t r)

theorem codesAt_eq (c : Dev nD) (t : Fin cfg0.N) (y : S256x5120.Idx) : codesAt m c t y = mcode (xs m c) (gs m c) (rowNo t (y 0)) (y 1) := by
  have h := row_eq m c t (y 0)
  have hs := rowS_eq m c t (y 0)
  show code (merged (Model.rowOf (iblk m c 0 t) (y 0)) (gainOf (iblk m c 1 t)) (y 1)) (rowS m c t (y 0)) = _
  rw [h, hs]
  rfl

theorem act_eq (c : Dev nD) (t : Fin cfg0.N) (r : Fin 256) :
    actOf (codesOf (iblk m c 0 t) (iblk m c 1 t)) (scaleAt (iblk m c 0 t) (iblk m c 1 t)) (iblk m c 2 t) (iblk m c 3 t) (iblk m c 4 t) r
      = act (xs m c) (gs m c) (ws m c) (ss m c) (bs m c) (rowNo t r) := by
  funext n
  unfold actOf act
  rw [show scaleAt (iblk m c 0 t) (iblk m c 1 t) r = _ from rowS_eq m c t r, blk3, blk4]
  refine congrArg (fun z => gelu (z * _ * _ + _)) (Finset.sum_congr rfl fun k _ => ?_)
  rw [blk2]
  exact congrArg (· * _) (codesAt_eq m c t (ix2 r k))

theorem rowG_eq (c : Dev nD) (t : Fin cfg0.N) (r : Fin 256) :
    rowG m c t r = MergeSpec.gscale (xs m c) (gs m c) (ws m c) (ss m c) (bs m c) (rowNo t r) :=
  congrArg (fun f => scaleOf (rmax f)) (act_eq m c t r)

theorem actCodesAt_eq (c : Dev nD) (t : Fin cfg0.N) (y : S256x5120.Idx) :
    actCodesAt m c t y = gcode (xs m c) (gs m c) (ws m c) (ss m c) (bs m c) (rowNo t (y 0)) (y 1) := by
  unfold actCodesAt actCodesOf gcode MergeSpec.gscale
  exact congrArg (fun f => code (f (y 1)) (scaleOf (rmax f))) (act_eq m c t (y 0))

/-! ## The results -/

/-- The codes of the merged rows. -/
def codes (c : Dev nD) : S4096x5120.Idx → EReal := fun y => mcode (xs m c) (gs m c) (y 0) (y 1)
/-- A row's number, from the two coordinates of its scale. -/
def rowOfScale (y : S32x128.Idx) : Fin 4096 :=
  ⟨128 * (y 0 : ℕ) + (y 1 : ℕ), by have : (y 0 : ℕ) < 32 := (y 0).isLt; have : (y 1 : ℕ) < 128 := (y 1).isLt; omega⟩
/-- The scales of the merged rows, 128 to a row. -/
def scales (c : Dev nD) : S32x128.Idx → EReal := fun y => mscale (xs m c) (gs m c) (rowOfScale y)
/-- The codes of the activations. -/
def actCodes (c : Dev nD) : S4096x5120.Idx → EReal := fun y => gcode (xs m c) (gs m c) (ws m c) (ss m c) (bs m c) (y 0) (y 1)
/-- The scales of the activations, 128 to a row. -/
def actScales (c : Dev nD) : S32x128.Idx → EReal := fun y => MergeSpec.gscale (xs m c) (gs m c) (ws m c) (ss m c) (bs m c) (rowOfScale y)

theorem rows_all (S : Fin cfg0.N → Fin 256 → EReal) (f : Fin 4096 → EReal) (hS : ∀ t r, S t r = f (rowNo t r)) (t : Fin cfg0.N) (ht : t.val = 15)
    (X : S32x128.Idx → EReal) (hX : Rows S t X) (j : S32x128.Idx) : X j = f (rowOfScale j) := by
  have h0 : (j 0 : ℕ) < 32 := (j 0).isLt
  have h1 : (j 1 : ℕ) < 128 := (j 1).isLt
  have e : j = rowIx ⟨(j 0 : ℕ) / 2, lt_of_lt_of_eq (by omega : (j 0 : ℕ) / 2 < 16) N_0.symm⟩ ⟨((j 0 : ℕ) % 2) * 128 + (j 1 : ℕ), by omega⟩ := by
    funext a
    refine Fin.ext ?_
    fin_cases a
    · show (j 0 : ℕ) = 2 * ((j 0 : ℕ) / 2) + (((j 0 : ℕ) % 2) * 128 + (j 1 : ℕ)) / 128
      omega
    · show (j 1 : ℕ) = (((j 0 : ℕ) % 2) * 128 + (j 1 : ℕ)) % 128
      omega
  refine (congrArg X e).trans ((hX _ _ (by show (j 0 : ℕ) / 2 ≤ t.val; omega)).trans ((hS _ _).trans (congrArg f (Fin.ext ?_))))
  show 256 * ((j 0 : ℕ) / 2) + (((j 0 : ℕ) % 2) * 128 + (j 1 : ℕ)) = 128 * (j 0 : ℕ) + (j 1 : ℕ)
  omega

section
variable (c : Dev nD) (A : (w : Fin cfg0.W) → Fin cfg0.N → (cfg0.win w).block.Idx → Elt Ideal (cfg0.win w).elt)
  (hL : ∀ (w : Fin cfg0.W) (u : Fin cfg0.N), (cfg0.win w).flush u = true → (rdat m c).Leaves w u (A w u))
include hL

theorem final5 : ((rdat m c).withAfter A).arrAt 5 (cfgs 0).N = codes m c := by
  refine ((rdat m c).withAfter A).arrAt_eq_of_covers 5 _ (by decide +kernel) fun t hf y => ?_
  have h : A 5 t = codesAt m c t := (dats m 0 c).toRRel_leaves (w := 5) rfl (hL 5 t hf)
  blk_simp
  rw [Pipeline.RDat.withAfter_after, h, codesAt_eq]
  refine (congrArg (fun R => mcode (xs m c) (gs m c) R (y 1)) (Fin.ext ?_ : _ = (win0_5.blk t).view.emb y 0)).trans (congrArg (fun n => mcode (xs m c) (gs m c) ((win0_5.blk t).view.emb y 0) n) (Fin.ext ?_ : _ = (win0_5.blk t).view.emb y 1))
  · blk_simp [idx t]
    show 256 * t.val + (y 0 : ℕ) = _
    omega
  · blk_simp [idx t]

theorem final7 : ((rdat m c).withAfter A).arrAt 7 (cfgs 0).N = actCodes m c := by
  refine ((rdat m c).withAfter A).arrAt_eq_of_covers 7 _ (by decide +kernel) fun t hf y => ?_
  have h : A 7 t = actCodesAt m c t := (dats m 0 c).toRRel_leaves (w := 7) rfl (hL 7 t hf)
  blk_simp
  rw [Pipeline.RDat.withAfter_after, h, actCodesAt_eq]
  refine (congrArg (fun R => gcode (xs m c) (gs m c) (ws m c) (ss m c) (bs m c) R (y 1)) (Fin.ext ?_ : _ = (win0_7.blk t).view.emb y 0)).trans (congrArg (fun n => gcode (xs m c) (gs m c) (ws m c) (ss m c) (bs m c) ((win0_7.blk t).view.emb y 0) n) (Fin.ext ?_ : _ = (win0_7.blk t).view.emb y 1))
  · blk_simp [idx t]
    show 256 * t.val + (y 0 : ℕ) = _
    omega
  · blk_simp [idx t]

theorem final6 : ((rdat m c).withAfter A).arrAt 6 (cfgs 0).N = scales m c := by
  have hw : (cfg0.win 6).WholeAt ⟨15, by decide⟩ := by decide +kernel
  refine ((rdat m c).withAfter A).arrAt_eq_of_after_last 6 ⟨15, by decide⟩ hw _ fun j => ?_
  have h : Rows (rowS m c) _ (A 6 _) := (dats m 0 c).toRRel_leaves (w := 6) rfl (hL 6 _ hw.1)
  blk_simp
  rw [Pipeline.RDat.withAfter_after]
  exact rows_all _ _ (rowS_eq m c) _ rfl _ h _

theorem final8 : ((rdat m c).withAfter A).arrAt 8 (cfgs 0).N = actScales m c := by
  have hw : (cfg0.win 8).WholeAt ⟨15, by decide⟩ := by decide +kernel
  refine ((rdat m c).withAfter A).arrAt_eq_of_after_last 8 ⟨15, by decide⟩ hw _ fun j => ?_
  have h : Rows (rowG m c) _ (A 8 _) := (dats m 0 c).toRRel_leaves (w := 8) rfl (hL 8 _ hw.1)
  blk_simp
  rw [Pipeline.RDat.withAfter_after]
  exact rows_all _ _ (rowG_eq m c) _ rfl _ h _
end

theorem run_values : θ_run defs (onTc (τ := τ) (main (F := Ideal))) ⟨m, fun _ => 0, ρ⟩ (fun r => ∀ c : Dev nD,
      r.2.mem ((c.tc : Thread nD τ).loc main_v3_0) = codes m c
      ∧ r.2.mem ((c.tc : Thread nD τ).loc main_v3_1) = scales m c
      ∧ r.2.mem ((c.tc : Thread nD τ).loc main_v3_2) = actCodes m c
      ∧ r.2.mem ((c.tc : Thread nD τ).loc main_v3_3) = actScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨A, hL, hA⟩ := Pipeline.RDat.FramePost.exists_exact h c
    exact ⟨(hA 5).trans (final5 m c A hL), (hA 6).trans (final6 m c A hL), (hA 7).trans (final7 m c A hL), (hA 8).trans (final8 m c A hL),
      (Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Merge1Ideal.Rel

end
-- ==== Proof.MergeRefHost.lean ====
/- The host lines of the first projection's reference: what they leave for the call, as terms. -/
module

public import proofs.«01_k».proof.Proof.Gen.MergeRefIdeal.Frame
public import proofs.«01_k».proof.Proof.MergeSpec
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.MergeRefIdeal.Linear

open Cert.MergeRefIdeal Cert.MergeRefIdeal.Gen Cert.MergeSpec

/-- The patches over the root of their mean square, times the gain. -/
def hNormed (x : FVec Ideal S16384x1280 .bf16) (g : FVec Ideal S1280 .f32) : FVec Ideal S16384x1280 .f32 :=
  mulf (Host.divf (extf .f32 x bitsLt_bf16_f32) (broadcastInDim S16384x1280 ![0, 1] bcast_S16384x1_S16384x1280_0_1
      (Host.sqrt (addf (Host.divf (broadcastInDim S16384x1 ![0] bcast_S16384_S16384x1_0
          (Host.reduceAdd (mulf (extf .f32 x bitsLt_bf16_f32) (extf .f32 x bitsLt_bf16_f32)) (constant S_ .f32 0#32) reducesTo_S16384x1280_S16384_d1 h_S_))
        (broadcastInDim S16384x1 ![] bcast_S_S16384x1 (constant S_ .f32 0x44A00000#32)))
        (broadcastInDim S16384x1 ![] bcast_S_S16384x1 (constant S_ .f32 0x358637BD#32))))))
    (broadcastInDim S16384x1280 ![0, 1] bcast_S1x1280_S16384x1280_0_1 (broadcastInDim S1x1280 ![1] bcast_S1280_S1x1280_1 g))

/-- Four patches side by side. -/
def hMerged (x : FVec Ideal S16384x1280 .bf16) (g : FVec Ideal S1280 .f32) : FVec Ideal S4096x5120 .f32 :=
  shapeCast S4096x5120 (hNormed x g) shapeCasts_S16384x1280_S4096x5120

/-- The largest magnitude of each row. -/
def hMax (G : FVec Ideal S4096x5120 .f32) : FVec Ideal S4096 .f32 :=
  Host.reduce FloatOps.maximumf (Host.absf G) (constant S_ .f32 0xFF800000#32) reducesTo_S4096x5120_S4096_d1 h_S_

/-- A scale of each largest magnitude. -/
def hScaleOf (M : FVec Ideal S4096 .f32) : FVec Ideal S4096 .f32 :=
  select (cmpf .oeq M (broadcastInDim S4096 ![] bcast_S_S4096 (constant S_ .f32 0#32)))
    (broadcastInDim S4096 ![] bcast_S_S4096 (constant S_ .f32 0x3F800000#32))
    (Host.divf M (broadcastInDim S4096 ![] bcast_S_S4096 (constant S_ .f32 0x43E00000#32)))

/-- A merged row's scale. -/
def hScale (G : FVec Ideal S4096x5120 .f32) : FVec Ideal S4096 .f32 := hScaleOf (hMax G)

/-- The merged rows over their scales, clipped. -/
def hCodes (G : FVec Ideal S4096x5120 .f32) (s : FVec Ideal S4096 .f32) : FVec Ideal S4096x5120 .f32 :=
  minimumf (broadcastInDim S4096x5120 ![] bcast_S_S4096x5120 (constant S_ .f32 0x43E00000#32))
    (maximumf (broadcastInDim S4096x5120 ![] bcast_S_S4096x5120 (constant S_ .f32 0xC3E00000#32))
      (Host.divf G (broadcastInDim S4096x5120 ![0, 1] bcast_S4096x1_S4096x5120_0_1 (broadcastInDim S4096x1 ![0] bcast_S4096_S4096x1_0 s))))

variable (m : (ℓ : Loc nD τ sig) → Buf (Elt Ideal) ℓ)

/-- The merged rows of the launch memory. -/
abbrev mergedRows (c : Dev nD) : FVec Ideal S4096x5120 .f32 := hMerged (m ((c : Thread nD τ).loc main_arg0)) (m ((c : Thread nD τ).loc main_arg1))

theorem entry21 (c : Dev nD) : V m c main_v21 = hScale (mergedRows m c) := by
  unfold V V0
  after_reads_simp
  simp -implicitDefEqProofs only [StableHlo.TRef.toBuf, StableHlo.TRef.ofBuf, cast_cast, cast_eq]
  unfold hScale hScaleOf hMax mergedRows hMerged hNormed
  rfl

theorem entry25 (c : Dev nD) : V m c main_v25 = hCodes (mergedRows m c) (hScale (mergedRows m c)) := by
  unfold V V0
  after_reads_simp
  simp -implicitDefEqProofs only [StableHlo.TRef.toBuf, StableHlo.TRef.ofBuf, cast_cast, cast_eq]
  unfold hCodes hScale hScaleOf hMax mergedRows hMerged hNormed
  rfl

theorem entry26 (c : Dev nD) : V m c main_v26 = broadcastInDim S4096x1 ![0] bcast_S4096_S4096x1_0 (hScale (mergedRows m c)) := by
  unfold V V0
  after_reads_simp
  simp -implicitDefEqProofs only [StableHlo.TRef.toBuf, StableHlo.TRef.ofBuf, cast_cast, cast_eq]
  unfold hScale hScaleOf hMax mergedRows hMerged hNormed
  rfl

theorem entry27 (c : Dev nD) : V m c main_v27 = broadcastInDim S1x5120 ![1] bcast_S5120_S1x5120_1 (m ((c : Thread nD τ).loc main_arg3)) := by
  unfold V V0
  after_reads_simp

theorem entry28 (c : Dev nD) : V m c main_v28 = broadcastInDim S1x5120 ![1] bcast_S5120_S1x5120_1 (m ((c : Thread nD τ).loc main_arg4)) := by
  unfold V V0
  after_reads_simp

theorem entry2 (c : Dev nD) : V m c main_arg2 = m ((c : Thread nD τ).loc main_arg2) := by
  unfold V V0
  after_reads_simp
  try rfl

/-! ## What the host operations compute, at an index -/

section
variable (x : FVec Ideal S16384x1280 .bf16) (g : FVec Ideal S1280 .f32) (G : FVec Ideal S4096x5120 .f32) (s M : FVec Ideal S4096 .f32)

/-- The four patches of merged row `R`. -/
def rowOf (R : Fin 4096) (p : Fin 4) (d : Fin 1280) : EReal :=
  x (ix2 (⟨4 * R.val + p.val, by have := R.2; have := p.2; omega⟩ : Fin 16384) d)

theorem hNormed_at (i : S16384x1280.Idx) : hNormed x g i = nrm (fun d => x (ix2 (i 0) d)) (fun d => g (ix1 d)) (i 1) := by
  pointwise [hNormed]
  rw [show x i = x (ix2 (i 0) (i 1)) from congrArg x (eq_ix2 i)]
  rfl

theorem hScaleOf_at (i : S4096.Idx) : hScaleOf M i = scaleOf (M i) := by
  pointwise [hScaleOf]
  rfl

/-- The reduction is a maximum over the row. -/
theorem red_at (A : FVec Ideal S4096x5120 .f32) (i : S4096.Idx) :
    Host.reduce FloatOps.maximumf A (constant S_ .f32 0xFF800000#32) reducesTo_S4096x5120_S4096_d1 h_S_ i
      = (Finset.univ : Finset (Fin 5120)).fold max (Ideal.ofBits .f32 0xFF800000#32) fun k => A (ix2 (i 0) k) := by
  pointwise []

theorem hCodes_at (i : S4096x5120.Idx) : hCodes G s i = code (G i) (s (ix1 (i 0))) := by
  pointwise [hCodes]
  rfl

theorem hMerged_at (R : Fin 4096) (j : Fin 5120) : hMerged x g (ix2 R j) = merged (rowOf x R) (fun d => g (ix1 d)) j := by
  have h := hNormed_at x g
  unfold hMerged
  generalize hNormed x g = N at h
  pointwise []
  rw [h, merged]
  refine congrArg (fun f => nrm f (fun d => g (ix1 d)) _) (funext fun d => congrArg x (funext fun a => Fin.ext ?_))
  fin_cases a
  · show R.val * 4 + j.val / 1280 = 4 * R.val + j.val / 1280
    omega
  · rfl

theorem hScale_at (R : Fin 4096) : hScale (hMerged x g) (ix1 R) = scaleOf (rmax (merged (rowOf x R) (fun d => g (ix1 d)))) := by
  have h := hMerged_at x g R
  unfold hScale
  rw [hScaleOf_at]
  generalize hMerged x g = N at h
  refine congrArg scaleOf ((red_at (Host.absf N) (ix1 R)).trans ?_)
  rw [ninf_eq, ← fold_bot]
  refine congrArg (fun f => (Finset.univ : Finset (Fin 5120)).fold max ⊥ f) (funext fun k => ?_)
  exact congrArg mag (h k)
end

end Cert.MergeRefIdeal.Linear
end
-- ==== Proof.MergeRefPay.lean ====
/- What the reference's body computes, at an index. -/
module

public import proofs.«01_k».proof.Proof.MergeRefHost
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeRefIdeal.Linear

open Cert.MergeRefIdeal Cert.MergeRefIdeal.Gen Cert.MergeSpec

section
variable (v0 : FVec Ideal S4096x5120 .f32) (w : FVec Ideal S5120x5120 .fp8e4m3) (s : FVec Ideal S4096x1 .f32) (sc b : FVec Ideal S1x5120 .f32)

/-- The activations of row `R`. -/
def refAct (R : Fin 4096) (n : Fin 5120) : EReal :=
  gelu ((∑ k, v0 (ix2 R k) * w (ix2 k n)) * s (ix2 R 0) * sc (ix2 0 n) + b (ix2 0 n))

theorem act_at (j : S4096x5120.Idx) : k0_pay4 (F := Ideal) v0 w s sc b j = refAct v0 w s sc b (j 0) (j 1) := by
  pointwise [k0_pay4, k0_pay3]
  rfl

/-- A scale of each largest magnitude. -/
def scaleVec (M : FVec Ideal S4096 .f32) : FVec Ideal S4096 .f32 :=
  select (cmpf .oeq M (broadcast S4096 (Scalar.ofBits .f32 0x00000000#32))) (broadcast S4096 (Scalar.ofBits .f32 0x3F800000#32))
    (divf M (broadcast S4096 (Scalar.ofBits .f32 0x43E00000#32)))

theorem scaleVec_at (M : FVec Ideal S4096 .f32) (i : S4096.Idx) : scaleVec M i = scaleOf (M i) := by
  pointwise [scaleVec]
  rfl

theorem max_at (A : FVec Ideal S4096x5120 .f32) (i : S4096.Idx) :
    multiReduction .maximumf [1] S4096 A 0xFF800000#32 reduces_S4096x5120_S4096 (.inl rfl) rfl i
      = (Finset.univ : Finset (Fin 5120)).fold max (Ideal.ofBits .f32 0xFF800000#32) fun k => A (ix2 (i 0) k) := by
  pointwise []

theorem pay5_eq : k0_pay5 (F := Ideal) v0 w s sc b
    = scaleVec (multiReduction .maximumf [1] S4096 (absf (k0_pay4 (F := Ideal) v0 w s sc b)) 0xFF800000#32 reduces_S4096x5120_S4096 (.inl rfl) rfl) := rfl

theorem scale_at (R : Fin 4096) : k0_pay5 (F := Ideal) v0 w s sc b (ix1 R) = scaleOf (rmax (refAct v0 w s sc b R)) := by
  have h : ∀ k, k0_pay4 (F := Ideal) v0 w s sc b (ix2 R k) = refAct v0 w s sc b R k := fun k => act_at v0 w s sc b (ix2 R k)
  rw [pay5_eq, scaleVec_at]
  generalize k0_pay4 (F := Ideal) v0 w s sc b = N at h
  refine congrArg scaleOf ((max_at (absf N) (ix1 R)).trans ?_)
  rw [ninf_eq, ← fold_bot]
  refine congrArg (fun f => (Finset.univ : Finset (Fin 5120)).fold max ⊥ f) (funext fun k => ?_)
  exact congrArg mag (h k)

theorem clip_at (G : FVec Ideal S4096x5120 .f32) (H : FVec Ideal S4096 .f32) (j : S4096x5120.Idx) :
    k0_pay1 (F := Ideal) (divf G (broadcastTo S4096x5120 (shapeCast S4096x1 H shapeCasts_S4096_S4096x1) broadcasts_S4096x1_S4096x5120))
      (Scalar.ofBits .f32 0xC3E00000#32) (Scalar.ofBits .f32 0x43E00000#32) j = code (G j) (H (ix1 (j 0))) := by
  pointwise [k0_pay1]
  rfl

theorem pay6_eq : k0_pay6 (F := Ideal) v0 w s sc b
    = divf (k0_pay4 (F := Ideal) v0 w s sc b) (broadcastTo S4096x5120 (shapeCast S4096x1 (k0_pay5 (F := Ideal) v0 w s sc b) shapeCasts_S4096_S4096x1) broadcasts_S4096x1_S4096x5120) := rfl

theorem code_at (R : Fin 4096) (n : Fin 5120) :
    k0_pay1 (F := Ideal) (k0_pay6 v0 w s sc b) (Scalar.ofBits .f32 0xC3E00000#32) (Scalar.ofBits .f32 0x43E00000#32) (ix2 R n)
      = code (refAct v0 w s sc b R n) (scaleOf (rmax (refAct v0 w s sc b R))) := by
  have h4 : k0_pay4 (F := Ideal) v0 w s sc b (ix2 R n) = _ := act_at v0 w s sc b (ix2 R n)
  have h5 := scale_at v0 w s sc b R
  rw [pay6_eq]
  generalize k0_pay4 (F := Ideal) v0 w s sc b = G at h4
  generalize k0_pay5 (F := Ideal) v0 w s sc b = H at h5
  exact (clip_at G H (ix2 R n)).trans (congrArg₂ code h4 h5)

theorem tile_at (P : FVec Ideal S4096 .f32) (j : S32x128.Idx) : k0_pay2 (F := Ideal) P j
    = P (ix1 (⟨(j 0 : ℕ) * 128 + (j 1 : ℕ), by have : (j 0 : ℕ) < 32 := (j 0).isLt; have : (j 1 : ℕ) < 128 := (j 1).isLt; omega⟩ : Fin 4096)) := by
  pointwise [k0_pay2]
end

end Cert.MergeRefIdeal.Linear
end
-- ==== Proof.MergeRefValue.lean ====
/- The four results of the reference, as functions of the argument arrays. -/
module

public import proofs.«01_k».proof.Proof.MergeRefPay
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeRefIdeal.Linear

open Cert.MergeRefIdeal Cert.MergeRefIdeal.Gen Cert.MergeSpec

variable (m : (ℓ : Loc nD τ sig) → Buf (Elt Ideal) ℓ) (ρ : Dev nD → PrngReg)

/-! ## The arguments -/

def xs (c : Dev nD) (R : Fin 16384) (d : Fin 1280) : EReal := m ((c : Thread nD τ).loc main_arg0) (ix2 R d)
def gs (c : Dev nD) (d : Fin 1280) : EReal := m ((c : Thread nD τ).loc main_arg1) (ix1 d)
def ws (c : Dev nD) (k n : Fin 5120) : EReal := m ((c : Thread nD τ).loc main_arg2) (ix2 k n)
def ss (c : Dev nD) (n : Fin 5120) : EReal := m ((c : Thread nD τ).loc main_arg3) (ix1 n)
def bs (c : Dev nD) (n : Fin 5120) : EReal := m ((c : Thread nD τ).loc main_arg4) (ix1 n)

theorem merged_eq (c : Dev nD) (R : Fin 4096) (j : Fin 5120) : mergedRows m c (ix2 R j) = mrow (xs m c) (gs m c) R j :=
  hMerged_at _ _ R j

theorem scale_eq (c : Dev nD) (R : Fin 4096) : hScale (mergedRows m c) (ix1 R) = mscale (xs m c) (gs m c) R :=
  hScale_at _ _ R

theorem codes_eq (c : Dev nD) (R : Fin 4096) (j : Fin 5120) :
    hCodes (mergedRows m c) (hScale (mergedRows m c)) (ix2 R j) = mcode (xs m c) (gs m c) R j := by
  have h1 := merged_eq m c R j
  have h2 := scale_eq m c R
  generalize hScale (mergedRows m c) = S at h2
  generalize mergedRows m c = N at h1
  exact (hCodes_at N S (ix2 R j)).trans (congrArg₂ code h1 h2)

/-- The block index of every window at a grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-! ## The blocks -/

theorem col_at (S : FVec Ideal S4096 .f32) (R : Fin 4096) : broadcastInDim S4096x1 ![0] bcast_S4096_S4096x1_0 S (ix2 R 0) = S (ix1 R) := by
  pointwise []

theorem row_at (S : FVec Ideal S5120 .f32) (n : Fin 5120) : broadcastInDim S1x5120 ![1] bcast_S5120_S1x5120_1 S (ix2 0 n) = S (ix1 n) := by
  pointwise []

theorem read0 (A : FVec Ideal S4096x5120 .f32) (R : Fin 4096) (j : Fin 5120) : ((cfg0.win 0).blk t0_0).view.read (Elt Ideal) A (ix2 R j) = A (ix2 R j) := by
  blk_point [idx t0_0]

theorem read1 (A : FVec Ideal S4096x1 .f32) (R : Fin 4096) : ((cfg0.win 1).blk t0_0).view.read (Elt Ideal) A (ix2 R 0) = A (ix2 R 0) := by
  blk_point [idx t0_0]

theorem blk0 (c : Dev nD) (R : Fin 4096) (j : Fin 5120) : iblk m c 0 t0_0 (ix2 R j) = mcode (xs m c) (gs m c) R j := by
  refine Eq.trans ?_ (codes_eq m c R j)
  rw [← entry25]
  exact read0 _ R j

theorem blk1 (c : Dev nD) (R : Fin 4096) : iblk m c 1 t0_0 (ix2 R 0) = mscale (xs m c) (gs m c) R := by
  refine Eq.trans ?_ ((col_at _ R).trans (scale_eq m c R))
  rw [← entry26]
  exact read1 _ R

theorem blk2 (c : Dev nD) (k n : Fin 5120) : iblk m c 2 t0_0 (ix2 k n) = ws m c k n := by
  refine Eq.trans ?_ (congrFun (V_main_arg2 m c) (ix2 k n))
  blk_point [iblk, idx t0_0]

theorem blk3 (c : Dev nD) (n : Fin 5120) : iblk m c 3 t0_0 (ix2 0 n) = ss m c n := by
  have h := row_at (m ((c : Thread nD τ).loc main_arg3)) n
  rw [← entry27] at h
  refine Eq.trans ?_ h
  blk_point [iblk, idx t0_0]

theorem blk4 (c : Dev nD) (n : Fin 5120) : iblk m c 4 t0_0 (ix2 0 n) = bs m c n := by
  have h := row_at (m ((c : Thread nD τ).loc main_arg4)) n
  rw [← entry28] at h
  refine Eq.trans ?_ h
  blk_point [iblk, idx t0_0]

theorem act_eq (c : Dev nD) (R : Fin 4096) :
    refAct (iblk m c 0 t0_0) (iblk m c 2 t0_0) (iblk m c 1 t0_0) (iblk m c 3 t0_0) (iblk m c 4 t0_0) R
      = act (xs m c) (gs m c) (ws m c) (ss m c) (bs m c) R := by
  funext n
  unfold refAct act
  have h0 := fun k => blk0 m c R k
  have h1 := blk1 m c R
  have h2 := fun k => blk2 m c k n
  have h3 := blk3 m c n
  have h4 := blk4 m c n
  generalize iblk m c 0 t0_0 = x0 at h0 ⊢
  generalize iblk m c 1 t0_0 = x1 at h1 ⊢
  generalize iblk m c 2 t0_0 = x2 at h2 ⊢
  generalize iblk m c 3 t0_0 = x3 at h3 ⊢
  generalize iblk m c 4 t0_0 = x4 at h4 ⊢
  rw [h1, h3, h4]
  refine congrArg (fun z => gelu (z * _ * _ + _)) (Finset.sum_congr rfl fun k _ => ?_)
  rw [h0, h2]

/-! ## The results -/

/-- The codes of the merged rows. -/
def codes (c : Dev nD) : S4096x5120.Idx → EReal := fun y => mcode (xs m c) (gs m c) (y 0) (y 1)
/-- A row's number, from the two coordinates of its scale. -/
def rowOfScale (y : S32x128.Idx) : Fin 4096 :=
  ⟨128 * (y 0 : ℕ) + (y 1 : ℕ), by have : (y 0 : ℕ) < 32 := (y 0).isLt; have : (y 1 : ℕ) < 128 := (y 1).isLt; omega⟩
/-- The scales of the merged rows, 128 to a row. -/
def scales (c : Dev nD) : S32x128.Idx → EReal := fun y => mscale (xs m c) (gs m c) (rowOfScale y)
/-- The codes of the activations. -/
def actCodes (c : Dev nD) : S4096x5120.Idx → EReal := fun y => gcode (xs m c) (gs m c) (ws m c) (ss m c) (bs m c) (y 0) (y 1)
/-- The scales of the activations, 128 to a row. -/
def actScales (c : Dev nD) : S32x128.Idx → EReal := fun y => gscale (xs m c) (gs m c) (ws m c) (ss m c) (bs m c) (rowOfScale y)

theorem row_num (y : S32x128.Idx) (h) : (⟨(y 0 : ℕ) * 128 + (y 1 : ℕ), h⟩ : Fin 4096) = rowOfScale y :=
  Fin.ext (by show (y 0 : ℕ) * 128 + (y 1 : ℕ) = 128 * (y 0 : ℕ) + (y 1 : ℕ); omega)

theorem final5 (c : Dev nD) : (dats m 0 c).arrAt 5 (cfgs 0).N = codes m c := by
  refine (dats m 0 c).arrAt_eq_of_after_last 5 t0_0 (by decide +kernel) _ fun j => ?_
  blk_simp
  rw [after0_5]
  frame_out
  idx_vars j
  have h0 := fun R j => blk0 m c R j
  generalize iblk m c 0 t0_0 = x0 at h0 ⊢
  pointwise [k0_pay3]
  exact h0 _ _

theorem final6 (c : Dev nD) : (dats m 0 c).arrAt 6 (cfgs 0).N = actCodes m c := by
  refine (dats m 0 c).arrAt_eq_of_after_last 6 t0_0 (by decide +kernel) _ fun j => ?_
  blk_simp
  rw [after0_6]
  frame_out
  idx_vars j
  have ha := act_eq m c
  generalize iblk m c 0 t0_0 = x0 at ha ⊢
  generalize iblk m c 1 t0_0 = x1 at ha ⊢
  generalize iblk m c 2 t0_0 = x2 at ha ⊢
  generalize iblk m c 3 t0_0 = x3 at ha ⊢
  generalize iblk m c 4 t0_0 = x4 at ha ⊢
  refine (code_at _ _ _ _ _ _ _).trans ?_
  rw [ha]
  rfl

theorem final7 (c : Dev nD) : (dats m 0 c).arrAt 7 (cfgs 0).N = actScales m c := by
  refine (dats m 0 c).arrAt_eq_of_after_last 7 t0_0 (by decide +kernel) _ fun j => ?_
  blk_simp
  rw [after0_7]
  frame_out
  have ha := act_eq m c
  generalize iblk m c 0 t0_0 = x0 at ha ⊢
  generalize iblk m c 1 t0_0 = x1 at ha ⊢
  generalize iblk m c 2 t0_0 = x2 at ha ⊢
  generalize iblk m c 3 t0_0 = x3 at ha ⊢
  generalize iblk m c 4 t0_0 = x4 at ha ⊢
  refine (tile_at _ _).trans ((scale_at _ _ _ _ _ _).trans ?_)
  refine (congrArg (fun f => scaleOf (rmax f)) (ha _)).trans ?_
  exact congrArg (gscale (xs m c) (gs m c) (ws m c) (ss m c) (bs m c)) (row_num _ _)

theorem scales_at (S : FVec Ideal S4096 .f32) (y : S32x128.Idx) : shapeCast S32x128 S shapeCasts_S4096_S32x128 y
    = S (ix1 (⟨(y 0 : ℕ) * 128 + (y 1 : ℕ), by have : (y 0 : ℕ) < 32 := (y 0).isLt; have : (y 1 : ℕ) < 128 := (y 1).isLt; omega⟩ : Fin 4096)) := by
  pointwise []

theorem tail30 (c : Dev nD) : Pipeline.afterTail₀ cfgs (dats m) 0 (V0 m) [hostOps1] c main_v30 = scales m c := by
  unfold Pipeline.afterTail₀
  after_reads_simp
  rw [Pipeline.withArrays_of_ne _ c (V0 m c) _ main_v21 (by exact (by decide : ∀ w, Pipeline.arrRef spec0 w ≠ main_v21))]
  have h : ∀ R, V m c main_v21 (ix1 R) = mscale (xs m c) (gs m c) R := fun R => (congrFun (entry21 m c) (ix1 R)).trans (scale_eq m c R)
  funext y
  refine (scales_at _ y).trans ((h _).trans ?_)
  exact congrArg (mscale (xs m c) (gs m c)) (row_num _ _)

theorem run_values : θ_run defs (onTc (τ := τ) (main (F := Ideal))) ⟨m, fun _ => 0, ρ⟩ (fun r => ∀ c : Dev nD,
      r.2.mem ((c.tc : Thread nD τ).loc main_v29_0) = codes m c
      ∧ r.2.mem ((c.tc : Thread nD τ).loc main_v30) = scales m c
      ∧ r.2.mem ((c.tc : Thread nD τ).loc main_v29_1) = actCodes m c
      ∧ r.2.mem ((c.tc : Thread nD τ).loc main_v29_2) = actScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (final5 m c),
      ((h c).2 main_v30 (Pipeline.mem_restRefs_of main_v30 (by decide) (by decide))).trans (tail30 m c),
      ((h c).1 6).trans (final6 m c), ((h c).1 7).trans (final7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.MergeRefIdeal.Linear
end
-- ==== Proof.MergedRefValue.lean ====
module

public import proofs.«01_k».proof.Proof.Gen.MergedRefIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergedRefIdeal.Linear

open Cert.MergedRefIdeal Cert.MergedRefIdeal.Gen

variable (m : (ℓ : Loc nD τ sig) → Buf (Elt Ideal) ℓ)

/-- Entry (i, j) of the dequantised linear layer. -/
def linear (q : FVec Ideal S4096x5120 .fp8e4m3) (s : FVec Ideal S32x128 .f32) (w : FVec Ideal S5120x3584 .fp8e4m3)
    (ws b : FVec Ideal S3584 .f32) : FVec Ideal S4096x3584 .f32 := fun j =>
  (∑ k : Fin 5120, q (ix2 (j 0) k) * w (ix2 k (j 1)))
    * s (ix2 (⟨((j 0 : ℕ)) / 128, by have : (j 0 : ℕ) < 4096 := (j 0).isLt; omega⟩ : Fin 32) (⟨(j 0 : ℕ) % 128, by omega⟩ : Fin 128)) * ws (ix1 (j 1)) + b (ix1 (j 1))

/-- The block index of every window at a grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The result array after the run is the dequantised linear layer of the arguments. -/
theorem final (c : Dev nD) : (dats m 0 c).arrAt 5 (cfgs 0).N
    = linear (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5]
  frame_out
  idx_vars j
  pointwise [k0_pay1, linear]
  blk_point [iblk, V, idx t0_0]

end Cert.MergedRefIdeal.Linear
-- ==== Proof.QueryHead.lean ====
/- One stored head of the projection, read at an index. -/
module

public import proofs.«01_k».proof.Proof.Gen.ProjectIdeal.Skeleton
public import Idealize.ShloMosaic.Lib.Pipeline.ValueKit
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem

namespace Cert.ProjectIdeal.Linear

open Cert.ProjectIdeal Cert.ProjectIdeal.Gen

theorem y_at (x : FVec Ideal S256x3584 .fp8e4m3) (w : FVec Ideal S3584x512 .fp8e4m3) (xs : FVec Ideal S256x128 .f32)
    (s b : FVec Ideal S1x512 .f32) (i : S256x512.Idx) :
    k0_pay5 (F := Ideal) (k0_pay4 (F := Ideal) x w) xs s b i = (∑ k : Fin 3584, x (ix2 (i 0) k) * w (ix2 k (i 1)))
      * xs (ix2 (i 0) (⟨(i 1 : ℕ) % 128, by omega⟩ : Fin 128)) * s (ix2 0 (i 1)) + b (ix2 0 (i 1)) := by
  idx_vars i
  pointwise [k0_pay5, k0_pay4]
  blk_point []

/-- The angles' rows, three blocks of them one under another. -/
def rows (a : FVec Ideal S1x16x256 .f32) (b c : FVec Ideal S1x24x256 .f32) (r : Fin 256) (d : ℕ) : EReal :=
  if h : d < 16 then a (ix3 0 (⟨d, h⟩ : Fin 16) r) else if h' : d < 40 then b (ix3 0 (⟨d - 16, by omega⟩ : Fin 24) r)
    else c (ix3 0 (⟨(d - 40) % 24, by omega⟩ : Fin 24) r)

theorem rows_eq (a : FVec Ideal S1x16x256 .f32) (b c : FVec Ideal S1x24x256 .f32) (r : Fin 256) (d : ℕ) (hd : d < 64) :
    (if h : d < 16 then a (ix3 0 (⟨d, h⟩ : Fin 16) r) else if h' : d - 16 < 24 then b (ix3 0 (⟨d - 16, h'⟩ : Fin 24) r)
      else c (ix3 0 (⟨d - 16 - 24, by omega⟩ : Fin 24) r)) = rows a b c r d := by
  unfold rows
  by_cases h : d < 16
  · rw [dif_pos h, dif_pos h]
  · rw [dif_neg h, dif_neg h]
    by_cases h' : d < 40
    · rw [dif_pos h', dif_pos (by omega)]
    · rw [dif_neg h', dif_neg (by omega)]
      exact congrArg (fun e => c (ix3 0 e r)) (Fin.ext (by dsimp; omega))

theorem cos_at (a : FVec Ideal S1x16x256 .f32) (b c : FVec Ideal S1x24x256 .f32) (r : Fin 256) (d : Fin 128) :
    k0_pay2 (F := Ideal) a b c (ix2 r d) = rows a b c r (d.val % 64) := by
  pointwise [k0_pay2]
  by_cases h : d.val < 64
  · rw [dif_pos h, Nat.mod_eq_of_lt h]
    exact rows_eq a b c r d.val h
  · rw [dif_neg h, show d.val % 64 = d.val - 64 by omega]
    exact rows_eq a b c r (d.val - 64) (by omega)

theorem sin_at (a : FVec Ideal S1x16x256 .f32) (b c : FVec Ideal S1x24x256 .f32) (r : Fin 256) (d : Fin 128) :
    k0_pay3 (F := Ideal) a b c (ix2 r d) = if d.val < 64 then 0 - rows a b c r (d.val % 64) else rows a b c r (d.val % 64) := by
  pointwise [k0_pay3]
  by_cases h : d.val < 64
  · rw [dif_pos h, if_pos h, Nat.mod_eq_of_lt h]
    exact congrArg (0 - ·) (rows_eq a b c r d.val h)
  · rw [dif_neg h, if_neg h, show d.val % 64 = d.val - 64 by omega]
    exact rows_eq a b c r (d.val - 64) (by omega)

theorem slices (o : ℕ) (h : o + 128 ≤ 512) : S256x512.Slices ![0, o] S256x128 :=
  ⟨rfl, fun a => match a with
    | ⟨0, _⟩ => le_refl 256
    | ⟨1, _⟩ => h⟩

theorem slice_at (o : ℕ) (ho : o + 128 ≤ 512) (y : FVec Ideal S256x512 .f32) (r : Fin 256) (d : Fin 128) :
    extractStridedSlice S256x128 ![0, o] y (slices o ho) (ix2 r d) = y (ix2 r (⟨o + d.val, by omega⟩ : Fin 512)) := by
  refine extractStridedSlice_apply (s := S256x512) (t := S256x128) ![0, o] _ (slices o ho) (ix2 r d) _ fun a => ?_
  match a with
  | ⟨0, _⟩ => exact (Nat.zero_add _).symm
  | ⟨1, _⟩ => rfl

/-- A head turned through its angles: each column by the cosine, plus its partner half a head away by the signed sine. -/
def turned (o : ℕ) (ho : o + 128 ≤ 512) (y : FVec Ideal S256x512 .f32) (c s : FVec Ideal S256x128 .f32) (r : Fin 256) (d : Fin 128) : EReal :=
  y (ix2 r (⟨o + d.val, by omega⟩ : Fin 512)) * c (ix2 r d) + y (ix2 r (⟨o + (d.val + 64) % 128, by omega⟩ : Fin 512)) * s (ix2 r d)

theorem rot_at (y : FVec Ideal S256x128 .f32) (r : Fin 256) (d : Fin 128) :
    dynamicRotate 1 64#32 none y rotates_S256x128_d1 (ix2 r d) = y (ix2 r (⟨(d.val + 64) % 128, by omega⟩ : Fin 128)) := by
  refine dynamicRotate_apply (s := S256x128) 1 64#32 y rotates_S256x128_d1 (ix2 r d) _ fun b => ?_
  match b with
  | ⟨0, _⟩ => rfl
  | ⟨1, _⟩ =>
    show (d.val + 64) % 128 = (d.val + 128 - 64 % 128) % 128
    omega

theorem head_at (o : ℕ) (ho : o + 128 ≤ 512) (y : FVec Ideal S256x512 .f32) (c s : FVec Ideal S256x128 .f32) (x : S1x256x128.Idx) :
    shapeCast S1x256x128 (truncf .bf16 (addf (mulf (extractStridedSlice S256x128 ![0, o] y (slices o ho)) c)
        (mulf (dynamicRotate 1 64#32 none (extractStridedSlice S256x128 ![0, o] y (slices o ho)) rotates_S256x128_d1) s)) bitsLt_bf16_f32)
      shapeCasts_S256x128_S1x256x128 x = turned o ho y c s (x 1) (x 2) := by
  idx_vars x
  have h1 := fun r d => slice_at o ho y r d
  generalize extractStridedSlice S256x128 ![0, o] y _ = A at h1 ⊢
  have h2 := rot_at A
  generalize dynamicRotate 1 64#32 none A rotates_S256x128_d1 = B at h2 ⊢
  unfold turned
  pointwise [h1, h2]

end Cert.ProjectIdeal.Linear
-- ==== Proof.QuerySpec.lean ====
/- What the query heads of the projection are, as functions of the arguments. -/
module

public import Idealize.ShloMosaic.Lib.Pipeline.ValueKit

@[expose] public section

noncomputable section

open Idealize.ShloMosaic

namespace Cert.QuerySpec

/-- Entry (r, j) of the dequantised linear layer. -/
def proj (x : Fin 8192 → Fin 3584 → EReal) (xs : Fin 8192 → EReal) (w : Fin 3584 → Fin 4608 → EReal) (s b : Fin 4608 → EReal)
    (r : Fin 8192) (j : Fin 4608) : EReal := (∑ k : Fin 3584, x r k * w k j) * xs r * s j + b j

/-- The table that column `d` of the angles is taken from. -/
def sec (d : ℕ) : Fin 3 := if d < 16 then 0 else if d < 40 then 1 else 2

/-- Column `d` of the angles of row `r`. -/
def ang (t : Fin 3 → Fin 8192 → Fin 64 → EReal) (r : Fin 8192) (d : ℕ) : EReal := t (sec d) r ⟨d % 64, Nat.mod_lt _ (by decide)⟩

/-- Column `d` of head `h`, turned through its angles: the two halves of the columns mixed by the cosine and the sine. -/
def query (y : Fin 8192 → Fin 4608 → EReal) (c s : Fin 3 → Fin 8192 → Fin 64 → EReal) (h : Fin 28) (r : Fin 8192) (d : Fin 128) : EReal :=
  if d.val < 64 then
    y r ⟨128 * h.val + d.val, by omega⟩ * ang c r d.val - y r ⟨128 * h.val + (d.val + 64) % 128, by omega⟩ * ang s r d.val
  else
    y r ⟨128 * h.val + d.val, by omega⟩ * ang c r (d.val - 64) + y r ⟨128 * h.val + (d.val + 64) % 128, by omega⟩ * ang s r (d.val - 64)

/-- The same with the sign of the sine carried by the sine. -/
theorem query_eq (y : Fin 8192 → Fin 4608 → EReal) (c s : Fin 3 → Fin 8192 → Fin 64 → EReal) (h : Fin 28) (r : Fin 8192) (d : Fin 128) :
    query y c s h r d = y r ⟨128 * h.val + d.val, by omega⟩ * ang c r (d.val % 64)
      + y r ⟨128 * h.val + (d.val + 64) % 128, by omega⟩ * (if d.val < 64 then 0 - ang s r (d.val % 64) else ang s r (d.val % 64)) := by
  unfold query
  by_cases hd : d.val < 64
  · rw [if_pos hd, if_pos hd, Nat.mod_eq_of_lt hd, zero_sub, mul_neg, ← sub_eq_add_neg]
  · have e : d.val % 64 = d.val - 64 := by omega
    rw [if_neg hd, if_neg hd, e]

end Cert.QuerySpec
-- ==== Proof.QueryBlocks.lean ====
/- The blocks a grid point of the projection reads, and the pieces it stores. -/
module

public import proofs.«01_k».proof.Proof.Gen.ProjectIdeal.Value
public import proofs.«01_k».proof.Proof.QueryHead
public import proofs.«01_k».proof.Proof.QuerySpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjectIdeal.Linear

open Cert.ProjectIdeal Cert.ProjectIdeal.Gen

variable (m : (ℓ : Loc nD τ sig) → Buf (Elt Ideal) ℓ)

/-- The block index of every window at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0, t.val] ∧ win0_6.index t = ![0, 0, t.val] ∧ win0_7.index t = ![0, t.val, 0] :=
  (by decide +kernel : ∀ t : Fin grid0.N, _)

/-- Row `r` of a grid point's block of rows. -/
def row (t : Fin cfg0.N) (r : Fin 256) : Fin 8192 := ⟨t.val * 256 + r.val, by have : t.val < 32 := lt_of_lt_of_eq t.isLt N_0; omega⟩

theorem blk0 (c : Dev nD) (t : Fin cfg0.N) (r : Fin 256) (k : Fin 3584) : (iblk m c 0 t : FVec Ideal S256x3584 .fp8e4m3) (ix2 r k)
    = (m ((c : Thread nD τ).loc main_arg0) : FVec Ideal S8192x3584 .fp8e4m3) (ix2 (row t r) k) := by
  unfold row
  blk_ext [iblk, V, idx t]

theorem blk1 (c : Dev nD) (t : Fin cfg0.N) (r : Fin 256) (k : Fin 128) : (iblk m c 1 t : FVec Ideal S256x128 .f32) (ix2 r k)
    = (m ((c : Thread nD τ).loc main_arg1) : FVec Ideal S8192 .f32) (ix1 (row t r)) := by
  unfold row
  blk_ext! [iblk, V, idx t]

theorem blk2 (c : Dev nD) (t : Fin cfg0.N) (k : Fin 3584) (j : Fin 4608) : (iblk m c 2 t : FVec Ideal S3584x4608 .fp8e4m3) (ix2 k j)
    = (m ((c : Thread nD τ).loc main_arg2) : FVec Ideal S3584x4608 .fp8e4m3) (ix2 k j) := by
  blk_ext [iblk, V, idx t]

theorem blk3 (c : Dev nD) (t : Fin cfg0.N) (j : Fin 4608) : (iblk m c 3 t : FVec Ideal S1x4608 .f32) (ix2 0 j)
    = (m ((c : Thread nD τ).loc main_arg3) : FVec Ideal S4608 .f32) (ix1 j) := by
  blk_ext! [iblk, V, idx t]

theorem blk4 (c : Dev nD) (t : Fin cfg0.N) (j : Fin 4608) : (iblk m c 4 t : FVec Ideal S1x4608 .f32) (ix2 0 j)
    = (m ((c : Thread nD τ).loc main_arg4) : FVec Ideal S4608 .f32) (ix1 j) := by
  blk_ext! [iblk, V, idx t]

theorem blk5 (c : Dev nD) (t : Fin cfg0.N) (n : Fin 3) (d : Fin 64) (r : Fin 256) : (iblk m c 5 t : FVec Ideal S3x64x256 .f32) (ix3 n d r)
    = (m ((c : Thread nD τ).loc main_arg5) : FVec Ideal S3x8192x64 .f32) (ix3 n (row t r) d) := by
  unfold row
  blk_ext! [iblk, V, idx t]

theorem blk6 (c : Dev nD) (t : Fin cfg0.N) (n : Fin 3) (d : Fin 64) (r : Fin 256) : (iblk m c 6 t : FVec Ideal S3x64x256 .f32) (ix3 n d r)
    = (m ((c : Thread nD τ).loc main_arg6) : FVec Ideal S3x8192x64 .f32) (ix3 n (row t r) d) := by
  unfold row
  blk_ext! [iblk, V, idx t]

/-! ## The arguments -/

def xc (c : Dev nD) (R : Fin 8192) (k : Fin 3584) : EReal := m ((c : Thread nD τ).loc main_arg0) (ix2 R k)
def xs (c : Dev nD) (R : Fin 8192) : EReal := m ((c : Thread nD τ).loc main_arg1) (ix1 R)
def wc (c : Dev nD) (k : Fin 3584) (j : Fin 4608) : EReal := m ((c : Thread nD τ).loc main_arg2) (ix2 k j)
def ws (c : Dev nD) (j : Fin 4608) : EReal := m ((c : Thread nD τ).loc main_arg3) (ix1 j)
def bs (c : Dev nD) (j : Fin 4608) : EReal := m ((c : Thread nD τ).loc main_arg4) (ix1 j)
def cs (c : Dev nD) (n : Fin 3) (R : Fin 8192) (d : Fin 64) : EReal := m ((c : Thread nD τ).loc main_arg5) (ix3 n R d)
def sn (c : Dev nD) (n : Fin 3) (R : Fin 8192) (d : Fin 64) : EReal := m ((c : Thread nD τ).loc main_arg6) (ix3 n R d)

/-- The query heads. -/
def heads (c : Dev nD) : S28x8192x128.Idx → EReal := fun y =>
  Cert.QuerySpec.query (Cert.QuerySpec.proj (xc m c) (xs m c) (wc m c) (ws m c) (bs m c)) (cs m c) (sn m c) (y 0) (y 1) (y 2)

/-- The loads of a chunk of 512 columns stay inside. -/
theorem inbW (n : ℕ) (hn : n + 512 ≤ 4608) (a : Fin 2) : (![0, n] : Fin 2 → ℕ) a + (![3584, 512] : Fin 2 → ℕ) a ≤ S3584x4608.size a :=
  match a with
  | ⟨0, _⟩ => le_refl 3584
  | ⟨1, _⟩ => hn

theorem inbR (n : ℕ) (hn : n + 512 ≤ 4608) (a : Fin 2) : (![0, n] : Fin 2 → ℕ) a + (![1, 512] : Fin 2 → ℕ) a ≤ S1x4608.size a :=
  match a with
  | ⟨0, _⟩ => le_refl 1
  | ⟨1, _⟩ => hn

theorem ldW (n : ℕ) (hn : n + 512 ≤ 4608) (w : Vec Ideal S3584x4608 .fp8e4m3) (k : Fin 3584) (j : Fin 512) :
    View.ld (Val := Elt Ideal) w (Rect.unit (s := S3584x4608) ![0, n] S3584x512.size (inbW n hn)) (ix2 k j)
      = w (ix2 k (⟨n + j.val, by omega⟩ : Fin 4608)) := by
  refine View.ld_unit_apply_of _ _ _ _ _ _ fun a => ?_
  match a with
  | ⟨0, _⟩ => exact (Nat.zero_add _).symm
  | ⟨1, _⟩ => rfl

theorem ldR (n : ℕ) (hn : n + 512 ≤ 4608) (w : Vec Ideal S1x4608 .f32) (j : Fin 512) :
    View.ld (Val := Elt Ideal) w (Rect.unit (s := S1x4608) ![0, n] S1x512.size (inbR n hn)) (ix2 0 j)
      = w (ix2 0 (⟨n + j.val, by omega⟩ : Fin 4608)) := by
  refine View.ld_unit_apply_of _ _ _ _ _ _ fun a => ?_
  match a with
  | ⟨0, _⟩ => rfl
  | ⟨1, _⟩ => rfl

/-- The 512 projected columns from `n`. -/
def chunk (c : Dev nD) (t : Fin cfg0.N) (n : ℕ) (hn : n + 512 ≤ 4608) : FVec Ideal S256x512 .f32 :=
  k0_pay5 (F := Ideal) (k0_pay4 (F := Ideal) (iblk m c 0 t) (View.ld (Val := Elt Ideal) (iblk m c 2 t) (Rect.unit (s := S3584x4608) ![0, n] S3584x512.size (inbW n hn)))) (iblk m c 1 t)
    (View.ld (Val := Elt Ideal) (iblk m c 3 t) (Rect.unit (s := S1x4608) ![0, n] S1x512.size (inbR n hn)))
    (View.ld (Val := Elt Ideal) (iblk m c 4 t) (Rect.unit (s := S1x4608) ![0, n] S1x512.size (inbR n hn)))

theorem chunk_at (c : Dev nD) (t : Fin cfg0.N) (n : ℕ) (hn : n + 512 ≤ 4608) (r : Fin 256) (j : Fin 512) :
    chunk m c t n hn (ix2 r j) = Cert.QuerySpec.proj (xc m c) (xs m c) (wc m c) (ws m c) (bs m c) (row t r) ⟨n + j.val, by omega⟩ := by
  refine (y_at _ _ _ _ _ (ix2 r j)).trans ?_
  unfold Cert.QuerySpec.proj
  refine congrArg₂ (· + ·) (congrArg₂ (· * ·) (congrArg₂ (· * ·) (Finset.sum_congr rfl fun k _ => congrArg₂ (· * ·) ?_ ?_) ?_) ?_) ?_
  · exact blk0 m c t r k
  · exact (ldW n hn _ k j).trans (blk2 m c t k _)
  · exact blk1 m c t r _
  · exact (ldR n hn _ j).trans (blk3 m c t _)
  · exact (ldR n hn _ j).trans (blk4 m c t _)

/-- The cosines of a grid point's rows. -/
def cosB (c : Dev nD) (t : Fin cfg0.N) : FVec Ideal S256x128 .f32 :=
  k0_pay2 (F := Ideal) (View.ld (Val := Elt Ideal) (iblk m c 5 t) (Rect.unit (s := S3x64x256) ![0, 0, 0] S1x16x256.size inb_S3x64x256_S1x16x256_0_0_0))
    (View.ld (Val := Elt Ideal) (iblk m c 5 t) (Rect.unit (s := S3x64x256) ![1, 16, 0] S1x24x256.size inb_S3x64x256_S1x24x256_1_16_0))
    (View.ld (Val := Elt Ideal) (iblk m c 5 t) (Rect.unit (s := S3x64x256) ![2, 40, 0] S1x24x256.size inb_S3x64x256_S1x24x256_2_40_0))

/-- Its sines, the first half of them negated. -/
def sinB (c : Dev nD) (t : Fin cfg0.N) : FVec Ideal S256x128 .f32 :=
  k0_pay3 (F := Ideal) (View.ld (Val := Elt Ideal) (iblk m c 6 t) (Rect.unit (s := S3x64x256) ![0, 0, 0] S1x16x256.size inb_S3x64x256_S1x16x256_0_0_0))
    (View.ld (Val := Elt Ideal) (iblk m c 6 t) (Rect.unit (s := S3x64x256) ![1, 16, 0] S1x24x256.size inb_S3x64x256_S1x24x256_1_16_0))
    (View.ld (Val := Elt Ideal) (iblk m c 6 t) (Rect.unit (s := S3x64x256) ![2, 40, 0] S1x24x256.size inb_S3x64x256_S1x24x256_2_40_0))

/-- The three blocks of angle rows are the columns of the angles. -/
theorem rows_at (A : Vec Ideal S3x64x256 .f32) (r : Fin 256) (d : ℕ) (hd : d < 64) :
    rows (View.ld (Val := Elt Ideal) A (Rect.unit (s := S3x64x256) ![0, 0, 0] S1x16x256.size inb_S3x64x256_S1x16x256_0_0_0))
      (View.ld (Val := Elt Ideal) A (Rect.unit (s := S3x64x256) ![1, 16, 0] S1x24x256.size inb_S3x64x256_S1x24x256_1_16_0))
      (View.ld (Val := Elt Ideal) A (Rect.unit (s := S3x64x256) ![2, 40, 0] S1x24x256.size inb_S3x64x256_S1x24x256_2_40_0)) r d
      = A (ix3 (Cert.QuerySpec.sec d) (⟨d % 64, Nat.mod_lt _ (by decide)⟩ : Fin 64) r) := by
  have e : (⟨d % 64, Nat.mod_lt _ (by decide)⟩ : Fin 64) = ⟨d, hd⟩ := Fin.ext (Nat.mod_eq_of_lt hd)
  rw [e]
  unfold rows Cert.QuerySpec.sec
  by_cases h : d < 16
  · rw [dif_pos h, if_pos h]
    refine View.ld_unit_apply_of _ _ _ _ _ _ fun a => ?_
    match a with
    | ⟨0, _⟩ => rfl
    | ⟨1, _⟩ => exact (Nat.zero_add _).symm
    | ⟨2, _⟩ => exact (Nat.zero_add _).symm
  · rw [dif_neg h, if_neg h]
    by_cases h' : d < 40
    · rw [dif_pos h', if_pos h']
      refine View.ld_unit_apply_of _ _ _ _ _ _ fun a => ?_
      match a with
      | ⟨0, _⟩ => rfl
      | ⟨1, _⟩ => show d = 16 + (d - 16); omega
      | ⟨2, _⟩ => exact (Nat.zero_add _).symm
    · rw [dif_neg h', if_neg h']
      refine View.ld_unit_apply_of _ _ _ _ _ _ fun a => ?_
      match a with
      | ⟨0, _⟩ => rfl
      | ⟨1, _⟩ => show d = 40 + (d - 40) % 24; omega
      | ⟨2, _⟩ => exact (Nat.zero_add _).symm

theorem cosB_at (c : Dev nD) (t : Fin cfg0.N) (r : Fin 256) (d : Fin 128) :
    cosB m c t (ix2 r d) = Cert.QuerySpec.ang (cs m c) (row t r) (d.val % 64) :=
  (cos_at _ _ _ r d).trans ((rows_at _ r _ (Nat.mod_lt _ (by decide))).trans (blk5 m c t _ _ r))

theorem sinB_at (c : Dev nD) (t : Fin cfg0.N) (r : Fin 256) (d : Fin 128) :
    sinB m c t (ix2 r d) = if d.val < 64 then 0 - Cert.QuerySpec.ang (sn m c) (row t r) (d.val % 64) else Cert.QuerySpec.ang (sn m c) (row t r) (d.val % 64) := by
  have h := (rows_at (iblk m c 6 t) r _ (Nat.mod_lt d.val (by decide))).trans (blk6 m c t _ _ r)
  refine (sin_at _ _ _ r d).trans ?_
  by_cases hd : d.val < 64
  · exact (if_pos hd).trans ((congrArg (0 - ·) h).trans (if_pos hd).symm)
  · exact (if_neg hd).trans (h.trans (if_neg hd).symm)

/-- A head of a grid point's rows is the query head. -/
theorem piece_at (c : Dev nD) (t : Fin cfg0.N) (n o : ℕ) (hn : n + 512 ≤ 4608) (ho : o + 128 ≤ 512) (h : Fin 28) (hh : n + o = 128 * h.val)
    (r : Fin 256) (d : Fin 128) :
    turned o ho (chunk m c t n hn) (cosB m c t) (sinB m c t) r d = heads m c (ix3 h (row t r) d) := by
  refine Eq.trans ?_ (Cert.QuerySpec.query_eq _ _ _ h (row t r) d).symm
  unfold turned
  rw [chunk_at, chunk_at, cosB_at, sinB_at]
  refine congrArg₂ (· + ·) (congrArg (fun j => Cert.QuerySpec.proj _ _ _ _ _ _ j * _) (Fin.ext ?_)) (congrArg (fun j => Cert.QuerySpec.proj _ _ _ _ _ _ j * _) (Fin.ext ?_))
  · show n + (o + d.val) = 128 * h.val + d.val
    omega
  · show n + (o + (d.val + 64) % 128) = 128 * h.val + (d.val + 64) % 128
    omega

/-- The same of a stored piece: head `k` in chunk `k / 4`. -/
theorem stored_at (c : Dev nD) (t : Fin cfg0.N) {k : ℕ} (x : S1x256x128.Idx) (y : ((cfg0.win 7).xblock (cfg0.grid.coords t)).Idx)
    (h0 : (y 0 : ℕ) = k + (x 0 : ℕ)) (h1 : (y 1 : ℕ) = (x 1 : ℕ)) (h2 : (y 2 : ℕ) = (x 2 : ℕ)) (hk : k < 28) :
    shapeCast S1x256x128 (truncf .bf16 (addf (mulf (extractStridedSlice S256x128 ![0, 128 * (k % 4)] (chunk m c t (512 * (k / 4)) (by omega)) (slices _ (by omega))) (cosB m c t))
        (mulf (dynamicRotate 1 64#32 none (extractStridedSlice S256x128 ![0, 128 * (k % 4)] (chunk m c t (512 * (k / 4)) (by omega)) (slices _ (by omega))) rotates_S256x128_d1)
          (sinB m c t))) bitsLt_bf16_f32)
      shapeCasts_S256x128_S1x256x128 x = heads m c (((View.whole main_v6).slice (win0_7.rect t)).emb y) := by
  have ho : 128 * (k % 4) + 128 ≤ 512 := by omega
  refine (head_at _ ho _ _ _ x).trans ((piece_at m c t _ _ _ ho ⟨k, hk⟩ (by dsimp; omega) (x 1) (x 2)).trans (congrArg (heads m c) ?_))
  have hx : (x 0 : ℕ) = 0 := Nat.lt_one_iff.mp (x 0).isLt
  funext a
  apply Fin.ext
  have e : (((View.whole main_v6).slice (win0_7.rect t)).emb y a : ℕ) = win0_7.index t a * win0_7.size a + (y a : ℕ) := Pipeline.Window.rect_emb_val win0_7 t y a
  rw [e]
  match a with
  | ⟨0, _⟩ => show k = win0_7.index t 0 * 28 + (y 0 : ℕ); rw [(idx t).2.2.2.2.2.2.2]; show k = 0 * 28 + (y 0 : ℕ); omega
  | ⟨1, _⟩ => show t.val * 256 + (x 1 : ℕ) = win0_7.index t 1 * 256 + (y 1 : ℕ); rw [(idx t).2.2.2.2.2.2.2]; show _ = t.val * 256 + (y 1 : ℕ); omega
  | ⟨2, _⟩ => show (x 2 : ℕ) = win0_7.index t 2 * 128 + (y 2 : ℕ); rw [(idx t).2.2.2.2.2.2.2]; show _ = 0 * 128 + (y 2 : ℕ); omega

end Cert.ProjectIdeal.Linear
-- ==== Proof.QueryValue.lean ====
/- The result of the projection, as a function of the argument arrays. -/
module

public import proofs.«01_k».proof.Proof.Gen.ProjectIdeal.Value
public import proofs.«01_k».proof.Proof.QueryBlocks
public import proofs.«01_k».proof.Proof.QuerySpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjectIdeal.Linear

open Cert.ProjectIdeal Cert.ProjectIdeal.Gen

variable (m : (ℓ : Loc nD τ sig) → Buf (Elt Ideal) ℓ)

set_option maxHeartbeats 400000 in
/-- The result array after the run is the query heads of the arguments. -/
theorem final (c : Dev nD) : (dats m 0 c).arrAt 7 (cfgs 0).N = heads m c := by
  refine (dats m 0 c).arrAt_eq_of_covers 7 _ (by decide +kernel) fun t _ y => ?_
  blk_simp
  rw [after0_7]
  unfold outsAt0
  frame_out
  canon_tiles x h
  case piece27 => exact stored_at m c t x y (k := 0) (h0.trans (Nat.zero_add _).symm) h1 h2 (by decide)
  all_goals exact stored_at m c t x y h0 h1 h2 (by decide)

end Cert.ProjectIdeal.Linear
-- ==== Proof.QueryRefHead.lean ====
/- One stored head of the reference, read at an index. -/
module

public import proofs.«01_k».proof.Proof.Gen.HeadsRefIdeal.Skeleton
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.HeadsRefIdeal.Linear

open Cert.HeadsRefIdeal Cert.HeadsRefIdeal.Gen

theorem y_at (x : FVec Ideal S8192x3584 .fp8e4m3) (w : FVec Ideal S3584x4608 .fp8e4m3) (xs : FVec Ideal S8192x1 .f32)
    (s b : FVec Ideal S1x4608 .f32) (i : S8192x4608.Idx) :
    k0_pay3 (F := Ideal) x w xs s b i = (∑ k : Fin 3584, x (ix2 (i 0) k) * w (ix2 k (i 1))) * xs (ix2 (i 0) 0) * s (ix2 0 (i 1)) + b (ix2 0 (i 1)) := by
  pointwise [k0_pay3]

theorem slices (o : ℕ) (h : o + 64 ≤ 4608) : S8192x4608.Slices ![0, o] S8192x64 :=
  ⟨rfl, fun a => match a with
    | ⟨0, _⟩ => le_refl 8192
    | ⟨1, _⟩ => h⟩

theorem slice_at (o : ℕ) (ho : o + 64 ≤ 4608) (y : FVec Ideal S8192x4608 .f32) (r : Fin 8192) (d : Fin 64) :
    extractStridedSlice S8192x64 ![0, o] y (slices o ho) (ix2 r d) = y (ix2 r (⟨o + d.val, by omega⟩ : Fin 4608)) := by
  refine extractStridedSlice_apply (s := S8192x4608) (t := S8192x64) ![0, o] _ (slices o ho) (ix2 r d) _ fun a => ?_
  match a with
  | ⟨0, _⟩ => exact (Nat.zero_add _).symm
  | ⟨1, _⟩ => rfl

/-- A head turned through its angles: the two halves of the columns mixed by the cosine and the sine. -/
def turned (o : ℕ) (ho : o + 128 ≤ 4608) (y : FVec Ideal S8192x4608 .f32) (c s : FVec Ideal S8192x64 .f32) (r : Fin 8192) (d : Fin 128) : EReal :=
  if h : d.val < 64 then
    y (ix2 r (⟨o + d.val, by omega⟩ : Fin 4608)) * c (ix2 r (⟨d.val, h⟩ : Fin 64)) - y (ix2 r (⟨o + 64 + d.val, by omega⟩ : Fin 4608)) * s (ix2 r (⟨d.val, h⟩ : Fin 64))
  else
    y (ix2 r (⟨o + d.val, by omega⟩ : Fin 4608)) * c (ix2 r (⟨d.val - 64, by omega⟩ : Fin 64)) + y (ix2 r (⟨o + (d.val - 64), by omega⟩ : Fin 4608)) * s (ix2 r (⟨d.val - 64, by omega⟩ : Fin 64))

theorem head_at (o p : ℕ) (hl : o + 128 ≤ 4608) (hop : p = o + 64)
    (y : FVec Ideal S8192x4608 .f32) (c s : FVec Ideal S8192x64 .f32) (x : S1x8192x128.Idx) :
    shapeCast S1x8192x128 (truncf .bf16 (concatenate S8192x128 1
        [⟨S8192x64, subf (mulf (extractStridedSlice S8192x64 ![0, o] y (slices o (by omega))) c) (mulf (extractStridedSlice S8192x64 ![0, p] y (slices p (by omega))) s)⟩,
         ⟨S8192x64, addf (mulf (extractStridedSlice S8192x64 ![0, p] y (slices p (by omega))) c) (mulf (extractStridedSlice S8192x64 ![0, o] y (slices o (by omega))) s)⟩]
        concatenates_S8192x64_S8192x64_S8192x128_d1) bitsLt_bf16_f32) shapeCasts_S8192x128_S1x8192x128 x
      = turned o hl y c s (x 1) (x 2) := by
  subst hop
  idx_vars x
  have h1 := fun r d => slice_at o (by omega) y r d
  have h2 := fun r d => slice_at (o + 64) (by omega) y r d
  generalize extractStridedSlice S8192x64 ![0, o] y _ = A at h1 ⊢
  generalize extractStridedSlice S8192x64 ![0, o + 64] y _ = B at h2 ⊢
  unfold turned
  pointwise [h1, h2]
  by_cases h : x2.val < 64
  · rw [dif_pos h, dif_pos h]
  · have e : (⟨o + 64 + (x2.val - 64), by omega⟩ : Fin 4608) = ⟨o + x2.val, by omega⟩ := Fin.ext (by dsimp; omega)
    rw [dif_neg h, dif_neg h, e]

end Cert.HeadsRefIdeal.Linear
-- ==== Proof.QueryRefBlocks.lean ====
/- The arrays the reference reads, and the pieces it stores. -/
module

public import proofs.«01_k».proof.Proof.Gen.HeadsRefIdeal.Value
public import proofs.«01_k».proof.Proof.QueryRefHead
public import proofs.«01_k».proof.Proof.QuerySpec
public import Idealize.ShloMosaic.Lib.StableHlo.RunRead
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HeadsRefIdeal.Linear

open Cert.HeadsRefIdeal Cert.HeadsRefIdeal.Gen

variable (m : (ℓ : Loc nD τ sig) → Buf (Elt Ideal) ℓ)

/-- The block index of every window. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0, 0] :=
  (by decide +kernel : ∀ t : Fin grid0.N, _)

/-- The columns of the three tables, one section after another. -/
def angles (a : FVec Ideal S3x8192x64 .f32) : FVec Ideal S8192x64 .f32 :=
  concatenate S8192x64 1 [⟨S8192x16, shapeCast S8192x16 (extractStridedSlice S1x8192x16 ![0, 0, 0] a slices_S3x8192x64_S1x8192x16_0_0_0) shapeCasts_S1x8192x16_S8192x16⟩,
    ⟨S8192x24, shapeCast S8192x24 (extractStridedSlice S1x8192x24 ![1, 0, 16] a slices_S3x8192x64_S1x8192x24_1_0_16) shapeCasts_S1x8192x24_S8192x24⟩,
    ⟨S8192x24, shapeCast S8192x24 (extractStridedSlice S1x8192x24 ![2, 0, 40] a slices_S3x8192x64_S1x8192x24_2_0_40) shapeCasts_S1x8192x24_S8192x24⟩]
    concatenates_S8192x16_S8192x24_S8192x24_S8192x64_d1

theorem angles_at (a : FVec Ideal S3x8192x64 .f32) (r : Fin 8192) (d : Fin 64) : angles a (ix2 r d) = Cert.QuerySpec.ang (fun n R e => a (ix3 n R e)) r d.val := by
  unfold Cert.QuerySpec.ang Cert.QuerySpec.sec
  pointwise [angles]
  have e : (⟨d.val % 64, Nat.mod_lt _ (by decide)⟩ : Fin 64) = d := Fin.ext (Nat.mod_eq_of_lt d.isLt)
  rw [e]
  by_cases h : d.val < 16
  · rw [dif_pos h, if_pos h]
  · rw [dif_neg h, if_neg h]
    by_cases h' : d.val < 40
    · rw [dif_pos (by omega), if_pos h']
      exact congrArg (fun e => a (ix3 1 r e)) (Fin.ext (by dsimp; omega))
    · rw [dif_neg (by omega), if_neg h']
      exact congrArg (fun e => a (ix3 2 r e)) (Fin.ext (by dsimp; omega))

theorem entry6 (c : Dev nD) : V m c main_v6 = angles (m ((c : Thread nD τ).loc main_arg5)) := by
  unfold V
  after_reads_simp
  unfold angles
  rfl

theorem entry13 (c : Dev nD) : V m c main_v13 = angles (m ((c : Thread nD τ).loc main_arg6)) := by
  unfold V
  after_reads_simp
  unfold angles
  rfl

theorem entry14 (c : Dev nD) : V m c main_v14 = broadcastInDim S8192x1 ![0] bcast_S8192_S8192x1_0 (m ((c : Thread nD τ).loc main_arg1)) := by
  unfold V
  after_reads_simp

theorem entry15 (c : Dev nD) : V m c main_v15 = broadcastInDim S1x4608 ![1] bcast_S4608_S1x4608_1 (m ((c : Thread nD τ).loc main_arg3)) := by
  unfold V
  after_reads_simp

theorem entry16 (c : Dev nD) : V m c main_v16 = broadcastInDim S1x4608 ![1] bcast_S4608_S1x4608_1 (m ((c : Thread nD τ).loc main_arg4)) := by
  unfold V
  after_reads_simp

theorem blk0 (c : Dev nD) (r : Fin 8192) (k : Fin 3584) : (iblk m c 0 t0_0 : FVec Ideal S8192x3584 .fp8e4m3) (ix2 r k)
    = (m ((c : Thread nD τ).loc main_arg0) : FVec Ideal S8192x3584 .fp8e4m3) (ix2 r k) := by
  refine Eq.trans ?_ (congrFun (V_main_arg0 m c) (ix2 r k))
  blk_point [iblk, idx t0_0]

theorem blk2 (c : Dev nD) (k : Fin 3584) (j : Fin 4608) : (iblk m c 2 t0_0 : FVec Ideal S3584x4608 .fp8e4m3) (ix2 k j)
    = (m ((c : Thread nD τ).loc main_arg2) : FVec Ideal S3584x4608 .fp8e4m3) (ix2 k j) := by
  refine Eq.trans ?_ (congrFun (V_main_arg2 m c) (ix2 k j))
  blk_point [iblk, idx t0_0]

theorem col_at (S : FVec Ideal S8192 .f32) (R : Fin 8192) : broadcastInDim S8192x1 ![0] bcast_S8192_S8192x1_0 S (ix2 R 0) = S (ix1 R) := by
  pointwise []

theorem row_at (S : FVec Ideal S4608 .f32) (n : Fin 4608) : broadcastInDim S1x4608 ![1] bcast_S4608_S1x4608_1 S (ix2 0 n) = S (ix1 n) := by
  pointwise []

theorem blk1 (c : Dev nD) (r : Fin 8192) : (iblk m c 1 t0_0 : FVec Ideal S8192x1 .f32) (ix2 r 0)
    = (m ((c : Thread nD τ).loc main_arg1) : FVec Ideal S8192 .f32) (ix1 r) := by
  have h := col_at (m ((c : Thread nD τ).loc main_arg1)) r
  rw [← entry14] at h
  refine Eq.trans ?_ h
  blk_point [iblk, idx t0_0]

theorem blk3 (c : Dev nD) (j : Fin 4608) : (iblk m c 3 t0_0 : FVec Ideal S1x4608 .f32) (ix2 0 j)
    = (m ((c : Thread nD τ).loc main_arg3) : FVec Ideal S4608 .f32) (ix1 j) := by
  have h := row_at (m ((c : Thread nD τ).loc main_arg3)) j
  rw [← entry15] at h
  refine Eq.trans ?_ h
  blk_point [iblk, idx t0_0]

theorem blk4 (c : Dev nD) (j : Fin 4608) : (iblk m c 4 t0_0 : FVec Ideal S1x4608 .f32) (ix2 0 j)
    = (m ((c : Thread nD τ).loc main_arg4) : FVec Ideal S4608 .f32) (ix1 j) := by
  have h := row_at (m ((c : Thread nD τ).loc main_arg4)) j
  rw [← entry16] at h
  refine Eq.trans ?_ h
  blk_point [iblk, idx t0_0]

theorem read5 (A : FVec Ideal S8192x64 .f32) (r : Fin 8192) (d : Fin 64) : ((cfg0.win 5).blk t0_0).view.read (Elt Ideal) A (ix2 r d) = A (ix2 r d) := by
  blk_point [idx t0_0]

theorem read6 (A : FVec Ideal S8192x64 .f32) (r : Fin 8192) (d : Fin 64) : ((cfg0.win 6).blk t0_0).view.read (Elt Ideal) A (ix2 r d) = A (ix2 r d) := by
  blk_point [idx t0_0]

/-! ## The arguments -/

def xc (c : Dev nD) (R : Fin 8192) (k : Fin 3584) : EReal := m ((c : Thread nD τ).loc main_arg0) (ix2 R k)
def xs (c : Dev nD) (R : Fin 8192) : EReal := m ((c : Thread nD τ).loc main_arg1) (ix1 R)
def wc (c : Dev nD) (k : Fin 3584) (j : Fin 4608) : EReal := m ((c : Thread nD τ).loc main_arg2) (ix2 k j)
def ws (c : Dev nD) (j : Fin 4608) : EReal := m ((c : Thread nD τ).loc main_arg3) (ix1 j)
def bs (c : Dev nD) (j : Fin 4608) : EReal := m ((c : Thread nD τ).loc main_arg4) (ix1 j)
def cs (c : Dev nD) (n : Fin 3) (R : Fin 8192) (d : Fin 64) : EReal := m ((c : Thread nD τ).loc main_arg5) (ix3 n R d)
def sn (c : Dev nD) (n : Fin 3) (R : Fin 8192) (d : Fin 64) : EReal := m ((c : Thread nD τ).loc main_arg6) (ix3 n R d)

theorem blk5 (c : Dev nD) (r : Fin 8192) (d : Fin 64) : (iblk m c 5 t0_0 : FVec Ideal S8192x64 .f32) (ix2 r d) = Cert.QuerySpec.ang (cs m c) r d.val := by
  refine Eq.trans ?_ (angles_at (m ((c : Thread nD τ).loc main_arg5)) r d)
  rw [← entry6]
  exact read5 _ r d

theorem blk6 (c : Dev nD) (r : Fin 8192) (d : Fin 64) : (iblk m c 6 t0_0 : FVec Ideal S8192x64 .f32) (ix2 r d) = Cert.QuerySpec.ang (sn m c) r d.val := by
  refine Eq.trans ?_ (angles_at (m ((c : Thread nD τ).loc main_arg6)) r d)
  rw [← entry13]
  exact read6 _ r d

/-- The query heads. -/
def heads (c : Dev nD) : S28x8192x128.Idx → EReal := fun y =>
  Cert.QuerySpec.query (Cert.QuerySpec.proj (xc m c) (xs m c) (wc m c) (ws m c) (bs m c)) (cs m c) (sn m c) (y 0) (y 1) (y 2)

/-- The projected columns. -/
def cols (c : Dev nD) : FVec Ideal S8192x4608 .f32 :=
  k0_pay3 (F := Ideal) (iblk m c 0 t0_0) (iblk m c 2 t0_0) (iblk m c 1 t0_0) (iblk m c 3 t0_0) (iblk m c 4 t0_0)

theorem cols_at (c : Dev nD) (r : Fin 8192) (j : Fin 4608) :
    cols m c (ix2 r j) = Cert.QuerySpec.proj (xc m c) (xs m c) (wc m c) (ws m c) (bs m c) r j := by
  refine (y_at _ _ _ _ _ (ix2 r j)).trans ?_
  unfold Cert.QuerySpec.proj
  refine congrArg₂ (· + ·) (congrArg₂ (· * ·) (congrArg₂ (· * ·) (Finset.sum_congr rfl fun k _ => congrArg₂ (· * ·) ?_ ?_) ?_) ?_) ?_
  · exact blk0 m c r k
  · exact blk2 m c k _
  · exact blk1 m c r
  · exact blk3 m c _
  · exact blk4 m c _

/-- The cosines. -/
def cosA (c : Dev nD) : FVec Ideal S8192x64 .f32 := k0_pay4 (F := Ideal) (iblk m c 5 t0_0)
/-- The sines. -/
def sinA (c : Dev nD) : FVec Ideal S8192x64 .f32 := k0_pay5 (F := Ideal) (iblk m c 6 t0_0)

theorem same4 (a : FVec Ideal S8192x64 .f32) (r : Fin 8192) (d : Fin 64) : k0_pay4 (F := Ideal) a (ix2 r d) = a (ix2 r d) := by
  pointwise [k0_pay4]

theorem same5 (a : FVec Ideal S8192x64 .f32) (r : Fin 8192) (d : Fin 64) : k0_pay5 (F := Ideal) a (ix2 r d) = a (ix2 r d) := by
  pointwise [k0_pay5]

theorem cosA_at (c : Dev nD) (r : Fin 8192) (d : Fin 64) : cosA m c (ix2 r d) = Cert.QuerySpec.ang (cs m c) r d.val := (same4 _ r d).trans (blk5 m c r d)
theorem sinA_at (c : Dev nD) (r : Fin 8192) (d : Fin 64) : sinA m c (ix2 r d) = Cert.QuerySpec.ang (sn m c) r d.val := (same5 _ r d).trans (blk6 m c r d)

theorem pay46_eq (c : Dev nD) : k0_pay46 (F := Ideal) (iblk m c 0 t0_0) (iblk m c 1 t0_0) (iblk m c 2 t0_0) (iblk m c 3 t0_0) (iblk m c 4 t0_0) (iblk m c 5 t0_0) (iblk m c 6 t0_0) = cols m c := by
  unfold k0_pay46 cols
  frame_out

theorem pay47_eq (c : Dev nD) : k0_pay47 (F := Ideal) (iblk m c 0 t0_0) (iblk m c 1 t0_0) (iblk m c 2 t0_0) (iblk m c 3 t0_0) (iblk m c 4 t0_0) (iblk m c 5 t0_0) (iblk m c 6 t0_0) = cosA m c := by
  unfold k0_pay47 cosA
  frame_out

theorem pay48_eq (c : Dev nD) : k0_pay48 (F := Ideal) (iblk m c 0 t0_0) (iblk m c 1 t0_0) (iblk m c 2 t0_0) (iblk m c 3 t0_0) (iblk m c 4 t0_0) (iblk m c 5 t0_0) (iblk m c 6 t0_0) = sinA m c := by
  unfold k0_pay48 sinA
  frame_out

/-- A turned head is the query head. -/
theorem piece_at (c : Dev nD) (h : Fin 28) (ho : 128 * h.val + 128 ≤ 4608) (r : Fin 8192) (d : Fin 128) :
    turned (128 * h.val) ho (cols m c) (cosA m c) (sinA m c) r d = heads m c (ix3 h r d) := by
  unfold turned heads Cert.QuerySpec.query
  by_cases hd : d.val < 64
  · rw [dif_pos hd]
    refine Eq.trans ?_ (if_pos hd).symm
    rw [cols_at, cols_at, cosA_at, sinA_at]
    refine congrArg (fun j => _ - Cert.QuerySpec.proj _ _ _ _ _ _ j * _) (Fin.ext ?_)
    show 128 * h.val + 64 + d.val = 128 * h.val + (d.val + 64) % 128
    omega
  · rw [dif_neg hd]
    refine Eq.trans ?_ (if_neg hd).symm
    rw [cols_at, cols_at, cosA_at, sinA_at]
    refine congrArg (fun j => _ + Cert.QuerySpec.proj _ _ _ _ _ _ j * _) (Fin.ext ?_)
    show 128 * h.val + (d.val - 64) = 128 * h.val + (d.val + 64) % 128
    omega

/-- The same of a stored piece: head `k`. -/
theorem stored_at (c : Dev nD) {k : ℕ} (x : S1x8192x128.Idx) (j : S28x8192x128.Idx)
    (h0 : (j 0 : ℕ) = k + (x 0 : ℕ)) (h1 : (j 1 : ℕ) = (x 1 : ℕ)) (h2 : (j 2 : ℕ) = (x 2 : ℕ)) (hk : k < 28) :
    shapeCast S1x8192x128 (truncf .bf16 (concatenate S8192x128 1
        [⟨S8192x64, subf (mulf (extractStridedSlice S8192x64 ![0, 128 * k] (cols m c) (slices _ (by omega))) (cosA m c))
            (mulf (extractStridedSlice S8192x64 ![0, 128 * k + 64] (cols m c) (slices _ (by omega))) (sinA m c))⟩,
         ⟨S8192x64, addf (mulf (extractStridedSlice S8192x64 ![0, 128 * k + 64] (cols m c) (slices _ (by omega))) (cosA m c))
            (mulf (extractStridedSlice S8192x64 ![0, 128 * k] (cols m c) (slices _ (by omega))) (sinA m c))⟩]
        concatenates_S8192x64_S8192x64_S8192x128_d1) bitsLt_bf16_f32) shapeCasts_S8192x128_S1x8192x128 x = heads m c j := by
  have ho : 128 * k + 128 ≤ 4608 := by omega
  refine (head_at _ _ ho rfl _ _ _ x).trans ((piece_at m c ⟨k, hk⟩ ho (x 1) (x 2)).trans (congrArg (heads m c) ?_))
  have hx : (x 0 : ℕ) = 0 := Nat.lt_one_iff.mp (x 0).isLt
  funext a
  apply Fin.ext
  match a with
  | ⟨0, _⟩ => show k = (j 0 : ℕ); omega
  | ⟨1, _⟩ => exact h1.symm
  | ⟨2, _⟩ => exact h2.symm

end Cert.HeadsRefIdeal.Linear
-- ==== Proof.QueryRefValue.lean ====
/- The result of the reference, as a function of the argument arrays. -/
module

public import proofs.«01_k».proof.Proof.Gen.HeadsRefIdeal.Value
public import proofs.«01_k».proof.Proof.QueryRefBlocks
public import proofs.«01_k».proof.Proof.QuerySpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HeadsRefIdeal.Linear

open Cert.HeadsRefIdeal Cert.HeadsRefIdeal.Gen

variable (m : (ℓ : Loc nD τ sig) → Buf (Elt Ideal) ℓ)

set_option maxHeartbeats 400000 in
/-- The result array after the run is the query heads of the arguments. -/
theorem final (c : Dev nD) : (dats m 0 c).arrAt 7 (cfgs 0).N = heads m c := by
  refine (dats m 0 c).arrAt_eq_of_after_last 7 t0_0 (by decide +kernel) _ fun j => ?_
  blk_simp
  rw [after0_7]
  frame_out
  simp only [pay46_eq, pay47_eq, pay48_eq]
  canon_tiles x h
  case piece26 => exact stored_at m c x j h0 h1 h2 (by decide)
  case piece27 => exact stored_at m c x j (k := 0) (h0.trans (Nat.zero_add _).symm) h1 h2 (by decide)
  all_goals exact stored_at m c x j h0 h1 h2 (by decide)

end Cert.HeadsRefIdeal.Linear
-- ==== Proof.lean ====
/- The claims about the two linear layers of the merger and about the query heads of the projection: each call runs, leaves its arguments and its counters as it should, and
   over the reals computes what its reference computes. -/
module

public import proofs.«01_k».proof.Defs
public import proofs.«01_k».proof.Proof.Gen.Merge1
public import proofs.«01_k».proof.Proof.Gen.Merge1.Skeleton
public import proofs.«01_k».proof.Proof.Gen.Merge1.Launch
public import proofs.«01_k».proof.Proof.Gen.Merge1.Points
public import proofs.«01_k».proof.Proof.Gen.Merge1.Frame
public import proofs.«01_k».proof.Proof.Gen.Merge1Ideal
public import proofs.«01_k».proof.Proof.Gen.Merge1Ideal.Skeleton
public import proofs.«01_k».proof.Proof.Gen.Merge1Ideal.Launch
public import proofs.«01_k».proof.Proof.Gen.Merge1Ideal.Points
public import proofs.«01_k».proof.Proof.Gen.Merge1Ideal.Frame
public import proofs.«01_k».proof.Proof.Gen.MergeRefIdeal
public import proofs.«01_k».proof.Proof.Gen.MergeRefIdeal.Skeleton
public import proofs.«01_k».proof.Proof.Gen.MergeRefIdeal.Launch
public import proofs.«01_k».proof.Proof.Gen.MergeRefIdeal.Points
public import proofs.«01_k».proof.Proof.Gen.MergeRefIdeal.Frame
public import proofs.«01_k».proof.Proof.Gen.Merge2
public import proofs.«01_k».proof.Proof.Gen.Merge2.Skeleton
public import proofs.«01_k».proof.Proof.Gen.Merge2.Launch
public import proofs.«01_k».proof.Proof.Gen.Merge2.Points
public import proofs.«01_k».proof.Proof.Gen.Merge2.Frame
public import proofs.«01_k».proof.Proof.Gen.Merge2Ideal
public import proofs.«01_k».proof.Proof.Gen.Merge2Ideal.Skeleton
public import proofs.«01_k».proof.Proof.Gen.Merge2Ideal.Launch
public import proofs.«01_k».proof.Proof.Gen.Merge2Ideal.Points
public import proofs.«01_k».proof.Proof.Gen.Merge2Ideal.Frame
public import proofs.«01_k».proof.Proof.Gen.Merge2Ideal.Value
public import proofs.«01_k».proof.Proof.Gen.MergedRefIdeal
public import proofs.«01_k».proof.Proof.Gen.MergedRefIdeal.Skeleton
public import proofs.«01_k».proof.Proof.Gen.MergedRefIdeal.Launch
public import proofs.«01_k».proof.Proof.Gen.MergedRefIdeal.Points
public import proofs.«01_k».proof.Proof.Gen.MergedRefIdeal.Frame
public import proofs.«01_k».proof.Proof.Gen.MergedRefIdeal.Value
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.HeadsRefIdeal
public import proofs.«01_k».proof.Proof.Gen.HeadsRefIdeal.Skeleton
public import proofs.«01_k».proof.Proof.Gen.HeadsRefIdeal.Launch
public import proofs.«01_k».proof.Proof.Gen.HeadsRefIdeal.Points
public import proofs.«01_k».proof.Proof.Gen.HeadsRefIdeal.Frame
public import proofs.«01_k».proof.Proof.Gen.HeadsRefIdeal.Value
public import proofs.«01_k».proof.Proof.Merge2Value
public import proofs.«01_k».proof.Proof.MergeBitsFrame
public import proofs.«01_k».proof.Proof.MergeFinal
public import proofs.«01_k».proof.Proof.MergeRefValue
public import proofs.«01_k».proof.Proof.MergedRefValue
public import proofs.«01_k».proof.Proof.QueryValue
public import proofs.«01_k».proof.Proof.QueryRefValue
public import Idealize.ShloMosaic.Lib.Claim
public import Idealize.ShloMosaic.Adequacy
public import Idealize.ShloMosaic.Init

@[expose] public section

noncomputable section

namespace Cert.Proof

open Idealize.ShloMosaic Idealize.SL.Sem Cert.Merge2

/-- Both programs leave the same dequantised linear layer of the arguments. -/
theorem algebraic_merge2 : Cert.algebraic_Merge2Ideal_MergedRefIdeal := by
  pair_intro
  · run_from Cert.Merge2Ideal.Gen.run_main m g
  · run_from Cert.MergedRefIdeal.Gen.run_main m' g'
    rw [Cert.Merge2Ideal.Linear.final]
    refine (Cert.MergedRefIdeal.Linear.final m' c).trans ?_
    obtain ⟨h0, h1, h2, h3, h4⟩ := hagree c
    rw [h0, h1, h2, h3, h4]
    rfl

theorem algebraic_merge1 : Cert.algebraic_Merge1Ideal_MergeRefIdeal := by
  intro m g m' g' _ hagree
  refine ⟨Cert.Merge1Ideal.Rel.codes m, Cert.Merge1Ideal.Rel.scales m, Cert.Merge1Ideal.Rel.actCodes m, Cert.Merge1Ideal.Rel.actScales m,
    Cert.Merge1Ideal.Rel.run_values m g, ?_⟩
  refine (θ_run _ _ _).mono (fun r h c => ?_) (Cert.MergeRefIdeal.Linear.run_values m' g')
  obtain ⟨a0, a1, a2, a3, a4⟩ := hagree c
  have e0 : Cert.MergeRefIdeal.Linear.xs m' c = Cert.Merge1Ideal.Rel.xs m c := funext fun R => funext fun d => congrFun a0 _
  have e1 : Cert.MergeRefIdeal.Linear.gs m' c = Cert.Merge1Ideal.Rel.gs m c := funext fun d => congrFun a1 _
  have e2 : Cert.MergeRefIdeal.Linear.ws m' c = Cert.Merge1Ideal.Rel.ws m c := funext fun R => funext fun d => congrFun a2 _
  have e3 : Cert.MergeRefIdeal.Linear.ss m' c = Cert.Merge1Ideal.Rel.ss m c := funext fun d => congrFun a3 _
  have e4 : Cert.MergeRefIdeal.Linear.bs m' c = Cert.Merge1Ideal.Rel.bs m c := funext fun d => congrFun a4 _
  obtain ⟨h0, h1, h2, h3, hr⟩ := h c
  refine ⟨h0.trans ?_, h1.trans ?_, h2.trans ?_, h3.trans ?_, hr⟩
  · unfold Cert.MergeRefIdeal.Linear.codes; rw [e0, e1]; rfl
  · unfold Cert.MergeRefIdeal.Linear.scales; rw [e0, e1]; rfl
  · unfold Cert.MergeRefIdeal.Linear.actCodes; rw [e0, e1, e2, e3, e4]; rfl
  · unfold Cert.MergeRefIdeal.Linear.actScales; rw [e0, e1, e2, e3, e4]; rfl

/-- Both programs leave the same query heads of the arguments. -/
theorem algebraic_project : Cert.algebraic_ProjectIdeal_HeadsRefIdeal := by
  pair_intro
  · run_from Cert.ProjectIdeal.Gen.run_main m g
  · run_from Cert.HeadsRefIdeal.Gen.run_main m' g'
    rw [Cert.ProjectIdeal.Linear.final]
    refine (Cert.HeadsRefIdeal.Linear.final m' c).trans ?_
    obtain ⟨a0, a1, a2, a3, a4, a5, a6⟩ := hagree c
    have e0 : Cert.HeadsRefIdeal.Linear.xc m' c = Cert.ProjectIdeal.Linear.xc m c := funext fun R => funext fun k => congrFun a0 _
    have e1 : Cert.HeadsRefIdeal.Linear.xs m' c = Cert.ProjectIdeal.Linear.xs m c := funext fun R => congrFun a1 _
    have e2 : Cert.HeadsRefIdeal.Linear.wc m' c = Cert.ProjectIdeal.Linear.wc m c := funext fun k => funext fun j => congrFun a2 _
    have e3 : Cert.HeadsRefIdeal.Linear.ws m' c = Cert.ProjectIdeal.Linear.ws m c := funext fun j => congrFun a3 _
    have e4 : Cert.HeadsRefIdeal.Linear.bs m' c = Cert.ProjectIdeal.Linear.bs m c := funext fun j => congrFun a4 _
    have e5 : Cert.HeadsRefIdeal.Linear.cs m' c = Cert.ProjectIdeal.Linear.cs m c := funext fun n => funext fun R => funext fun d => congrFun a5 _
    have e6 : Cert.HeadsRefIdeal.Linear.sn m' c = Cert.ProjectIdeal.Linear.sn m c := funext fun n => funext fun R => funext fun d => congrFun a6 _
    unfold Cert.HeadsRefIdeal.Linear.heads
    rw [e0, e1, e2, e3, e4, e5, e6]
    rfl

theorem claim : Cert.Claim := ⟨Cert.Merge1.Gen.facts, Cert.Merge1Ideal.Gen.facts, Cert.MergeRefIdeal.Gen.facts,
  Cert.Merge2.Gen.facts, Cert.Merge2Ideal.Gen.facts, Cert.MergedRefIdeal.Gen.facts,
  Cert.Project.Gen.facts, Cert.ProjectIdeal.Gen.facts, Cert.HeadsRefIdeal.Gen.facts,
  fun m ρ _ => Cert.Merge1.Run.frame m ρ, fun m ρ _ => Cert.Merge1Ideal.Rel.frame m ρ, fun m ρ _ => Cert.MergeRefIdeal.Gen.frame m ρ,
  fun m ρ _ => Cert.Merge2.Gen.frame m ρ, fun m ρ _ => Cert.Merge2Ideal.Gen.frame m ρ, fun m ρ _ => Cert.MergedRefIdeal.Gen.frame m ρ,
  fun m ρ _ => Cert.Project.Gen.frame m ρ, fun m ρ _ => Cert.ProjectIdeal.Gen.frame m ρ, fun m ρ _ => Cert.HeadsRefIdeal.Gen.frame m ρ,
  trivial, algebraic_merge1, trivial, algebraic_merge2, trivial, algebraic_project⟩

end Cert.Proof

end
